-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Amax (m : (ℓ : Loc Cert.Amax.nD Cert.Amax.τ Cert.Amax.sig) → Buf (Elt Bits) ℓ) : Prop :=
  True

def Pre_AmaxIdeal (m : (ℓ : Loc Cert.AmaxIdeal.nD Cert.AmaxIdeal.τ Cert.AmaxIdeal.sig) → Buf (Elt Ideal) ℓ) : Prop :=
  True

def Pre_AmaxReferenceIdeal (m : (ℓ : Loc Cert.AmaxReferenceIdeal.nD Cert.AmaxReferenceIdeal.τ Cert.AmaxReferenceIdeal.sig) → Buf (Elt Ideal) ℓ) : Prop :=
  True

def Pre_Xsb (m : (ℓ : Loc Cert.Xsb.nD Cert.Xsb.τ Cert.Xsb.sig) → Buf (Elt Bits) ℓ) : Prop :=
  True

def Pre_XsbIdeal (m : (ℓ : Loc Cert.XsbIdeal.nD Cert.XsbIdeal.τ Cert.XsbIdeal.sig) → Buf (Elt Ideal) ℓ) : Prop :=
  True

def Pre_XsbReferenceIdeal (m : (ℓ : Loc Cert.XsbReferenceIdeal.nD Cert.XsbReferenceIdeal.τ Cert.XsbReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Amax [hAmax : Cert.Amax.Facts] : Prop :=
  ∀ (m : (ℓ : Loc Cert.Amax.nD Cert.Amax.τ Cert.Amax.sig) → Buf (Elt Bits) ℓ) (g : Dev Cert.Amax.nD → PrngReg), Pre_Amax m →
    θ_run (Cert.Amax.defs (F := Bits)) (onTc (τ := Cert.Amax.τ) (Cert.Amax.main (F := Bits))) ⟨m, fun _ => 0, g⟩ (fun r => (∀ c : Dev Cert.Amax.nD,
      r.2.mem ((c.tc : Thread Cert.Amax.nD Cert.Amax.τ).loc Cert.Amax.main_arg0) = m ((c.tc : Thread Cert.Amax.nD Cert.Amax.τ).loc Cert.Amax.main_arg0)
      ∧ r.2.mem ((c.tc : Thread Cert.Amax.nD Cert.Amax.τ).loc Cert.Amax.main_arg1) = m ((c.tc : Thread Cert.Amax.nD Cert.Amax.τ).loc Cert.Amax.main_arg1))
      ∧ r.2.sem = fun _ => 0)

def quiescent_AmaxIdeal [hAmaxIdeal : Cert.AmaxIdeal.Facts] : Prop :=
  ∀ (m : (ℓ : Loc Cert.AmaxIdeal.nD Cert.AmaxIdeal.τ Cert.AmaxIdeal.sig) → Buf (Elt Ideal) ℓ) (g : Dev Cert.AmaxIdeal.nD → PrngReg), Pre_AmaxIdeal m →
    θ_run (Cert.AmaxIdeal.defs (F := Ideal)) (onTc (τ := Cert.AmaxIdeal.τ) (Cert.AmaxIdeal.main (F := Ideal))) ⟨m, fun _ => 0, g⟩ (fun r => (∀ c : Dev Cert.AmaxIdeal.nD,
      r.2.mem ((c.tc : Thread Cert.AmaxIdeal.nD Cert.AmaxIdeal.τ).loc Cert.AmaxIdeal.main_arg0) = m ((c.tc : Thread Cert.AmaxIdeal.nD Cert.AmaxIdeal.τ).loc Cert.AmaxIdeal.main_arg0)
      ∧ r.2.mem ((c.tc : Thread Cert.AmaxIdeal.nD Cert.AmaxIdeal.τ).loc Cert.AmaxIdeal.main_arg1) = m ((c.tc : Thread Cert.AmaxIdeal.nD Cert.AmaxIdeal.τ).loc Cert.AmaxIdeal.main_arg1))
      ∧ r.2.sem = fun _ => 0)

def quiescent_AmaxReferenceIdeal [hAmaxReferenceIdeal : Cert.AmaxReferenceIdeal.Facts] : Prop :=
  ∀ (m : (ℓ : Loc Cert.AmaxReferenceIdeal.nD Cert.AmaxReferenceIdeal.τ Cert.AmaxReferenceIdeal.sig) → Buf (Elt Ideal) ℓ) (g : Dev Cert.AmaxReferenceIdeal.nD → PrngReg), Pre_AmaxReferenceIdeal m →
    θ_run (Cert.AmaxReferenceIdeal.defs (F := Ideal)) (onTc (τ := Cert.AmaxReferenceIdeal.τ) (Cert.AmaxReferenceIdeal.main (F := Ideal))) ⟨m, fun _ => 0, g⟩ (fun r => (∀ c : Dev Cert.AmaxReferenceIdeal.nD,
      r.2.mem ((c.tc : Thread Cert.AmaxReferenceIdeal.nD Cert.AmaxReferenceIdeal.τ).loc Cert.AmaxReferenceIdeal.main_arg0) = m ((c.tc : Thread Cert.AmaxReferenceIdeal.nD Cert.AmaxReferenceIdeal.τ).loc Cert.AmaxReferenceIdeal.main_arg0)
      ∧ r.2.mem ((c.tc : Thread Cert.AmaxReferenceIdeal.nD Cert.AmaxReferenceIdeal.τ).loc Cert.AmaxReferenceIdeal.main_arg1) = m ((c.tc : Thread Cert.AmaxReferenceIdeal.nD Cert.AmaxReferenceIdeal.τ).loc Cert.AmaxReferenceIdeal.main_arg1))
      ∧ r.2.sem = fun _ => 0)

def quiescent_Xsb [hXsb : Cert.Xsb.Facts] : Prop :=
  ∀ (m : (ℓ : Loc Cert.Xsb.nD Cert.Xsb.τ Cert.Xsb.sig) → Buf (Elt Bits) ℓ) (g : Dev Cert.Xsb.nD → PrngReg), Pre_Xsb m →
    θ_run (Cert.Xsb.defs (F := Bits)) (onTc (τ := Cert.Xsb.τ) (Cert.Xsb.main (F := Bits))) ⟨m, fun _ => 0, g⟩ (fun r => (∀ c : Dev Cert.Xsb.nD,
      r.2.mem ((c.tc : Thread Cert.Xsb.nD Cert.Xsb.τ).loc Cert.Xsb.main_arg0) = m ((c.tc : Thread Cert.Xsb.nD Cert.Xsb.τ).loc Cert.Xsb.main_arg0)
      ∧ r.2.mem ((c.tc : Thread Cert.Xsb.nD Cert.Xsb.τ).loc Cert.Xsb.main_arg1) = m ((c.tc : Thread Cert.Xsb.nD Cert.Xsb.τ).loc Cert.Xsb.main_arg1))
      ∧ r.2.sem = fun _ => 0)

def quiescent_XsbIdeal [hXsbIdeal : Cert.XsbIdeal.Facts] : Prop :=
  ∀ (m : (ℓ : Loc Cert.XsbIdeal.nD Cert.XsbIdeal.τ Cert.XsbIdeal.sig) → Buf (Elt Ideal) ℓ) (g : Dev Cert.XsbIdeal.nD → PrngReg), Pre_XsbIdeal m →
    θ_run (Cert.XsbIdeal.defs (F := Ideal)) (onTc (τ := Cert.XsbIdeal.τ) (Cert.XsbIdeal.main (F := Ideal))) ⟨m, fun _ => 0, g⟩ (fun r => (∀ c : Dev Cert.XsbIdeal.nD,
      r.2.mem ((c.tc : Thread Cert.XsbIdeal.nD Cert.XsbIdeal.τ).loc Cert.XsbIdeal.main_arg0) = m ((c.tc : Thread Cert.XsbIdeal.nD Cert.XsbIdeal.τ).loc Cert.XsbIdeal.main_arg0)
      ∧ r.2.mem ((c.tc : Thread Cert.XsbIdeal.nD Cert.XsbIdeal.τ).loc Cert.XsbIdeal.main_arg1) = m ((c.tc : Thread Cert.XsbIdeal.nD Cert.XsbIdeal.τ).loc Cert.XsbIdeal.main_arg1))
      ∧ r.2.sem = fun _ => 0)

def quiescent_XsbReferenceIdeal [hXsbReferenceIdeal : Cert.XsbReferenceIdeal.Facts] : Prop :=
  ∀ (m : (ℓ : Loc Cert.XsbReferenceIdeal.nD Cert.XsbReferenceIdeal.τ Cert.XsbReferenceIdeal.sig) → Buf (Elt Ideal) ℓ) (g : Dev Cert.XsbReferenceIdeal.nD → PrngReg), Pre_XsbReferenceIdeal m →
    θ_run (Cert.XsbReferenceIdeal.defs (F := Ideal)) (onTc (τ := Cert.XsbReferenceIdeal.τ) (Cert.XsbReferenceIdeal.main (F := Ideal))) ⟨m, fun _ => 0, g⟩ (fun r => (∀ c : Dev Cert.XsbReferenceIdeal.nD,
      r.2.mem ((c.tc : Thread Cert.XsbReferenceIdeal.nD Cert.XsbReferenceIdeal.τ).loc Cert.XsbReferenceIdeal.main_arg0) = m ((c.tc : Thread Cert.XsbReferenceIdeal.nD Cert.XsbReferenceIdeal.τ).loc Cert.XsbReferenceIdeal.main_arg0)
      ∧ r.2.mem ((c.tc : Thread Cert.XsbReferenceIdeal.nD Cert.XsbReferenceIdeal.τ).loc Cert.XsbReferenceIdeal.main_arg1) = m ((c.tc : Thread Cert.XsbReferenceIdeal.nD Cert.XsbReferenceIdeal.τ).loc Cert.XsbReferenceIdeal.main_arg1))
      ∧ r.2.sem = fun _ => 0)

def preserves_Kernel_KernelIdeal : Prop :=
  IdealRules.bf16_pair.BufferStatement Cert.KernelIdeal.S256x2x4096 Cert.KernelIdeal.S256x1x4096
  ∧ IdealRules.bf16_pair.Statement Cert.KernelIdeal.S64x256 Cert.KernelIdeal.S32x256
  ∧ IdealRules.bf16_pair.Statement Cert.KernelIdeal.S32x2x256 Cert.KernelIdeal.S32x1x256
  ∧ IdealRules.bf16_pair.Statement Cert.KernelIdeal.S256x2x4096 Cert.KernelIdeal.S256x1x4096
  ∧ IdealRules.bf16_pair.Statement Cert.KernelIdeal.S512x4096 Cert.KernelIdeal.S256x4096

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Amax_AmaxIdeal : Prop :=
  True

def algebraic_AmaxIdeal_AmaxReferenceIdeal [hAmaxIdeal : Cert.AmaxIdeal.Facts] [hAmaxReferenceIdeal : Cert.AmaxReferenceIdeal.Facts] : Prop :=
  ∀ (m : (ℓ : Loc Cert.AmaxIdeal.nD Cert.AmaxIdeal.τ Cert.AmaxIdeal.sig) → Buf (Elt Ideal) ℓ) (g : Dev Cert.AmaxIdeal.nD → PrngReg)
    (m' : (ℓ : Loc Cert.AmaxReferenceIdeal.nD Cert.AmaxReferenceIdeal.τ Cert.AmaxReferenceIdeal.sig) → Buf (Elt Ideal) ℓ) (g' : Dev Cert.AmaxReferenceIdeal.nD → PrngReg), Pre_AmaxIdeal m →
    (∀ c : Dev Cert.AmaxIdeal.nD,
      m' ((c.tc : Thread Cert.AmaxReferenceIdeal.nD Cert.AmaxReferenceIdeal.τ).loc Cert.AmaxReferenceIdeal.main_arg0) = m ((c.tc : Thread Cert.AmaxIdeal.nD Cert.AmaxIdeal.τ).loc Cert.AmaxIdeal.main_arg0)
      ∧ m' ((c.tc : Thread Cert.AmaxReferenceIdeal.nD Cert.AmaxReferenceIdeal.τ).loc Cert.AmaxReferenceIdeal.main_arg1) = m ((c.tc : Thread Cert.AmaxIdeal.nD Cert.AmaxIdeal.τ).loc Cert.AmaxIdeal.main_arg1)) →
    ∃ (v0 : (c : Dev Cert.AmaxIdeal.nD) → Buf (Elt Ideal) ((c.tc : Thread Cert.AmaxIdeal.nD Cert.AmaxIdeal.τ).loc Cert.AmaxIdeal.main_v0)),
      θ_run (Cert.AmaxIdeal.defs (F := Ideal)) (onTc (τ := Cert.AmaxIdeal.τ) (Cert.AmaxIdeal.main (F := Ideal))) ⟨m, fun _ => 0, g⟩ (fun r => ∀ c : Dev Cert.AmaxIdeal.nD,
          r.2.mem ((c.tc : Thread Cert.AmaxIdeal.nD Cert.AmaxIdeal.τ).loc Cert.AmaxIdeal.main_v0) = v0 c
          ∧ r.2.mem ((c.tc : Thread Cert.AmaxIdeal.nD Cert.AmaxIdeal.τ).loc Cert.AmaxIdeal.main_arg0) = m ((c.tc : Thread Cert.AmaxIdeal.nD Cert.AmaxIdeal.τ).loc Cert.AmaxIdeal.main_arg0)
          ∧ r.2.mem ((c.tc : Thread Cert.AmaxIdeal.nD Cert.AmaxIdeal.τ).loc Cert.AmaxIdeal.main_arg1) = m ((c.tc : Thread Cert.AmaxIdeal.nD Cert.AmaxIdeal.τ).loc Cert.AmaxIdeal.main_arg1))
      ∧ θ_run (Cert.AmaxReferenceIdeal.defs (F := Ideal)) (onTc (τ := Cert.AmaxReferenceIdeal.τ) (Cert.AmaxReferenceIdeal.main (F := Ideal))) ⟨m', fun _ => 0, g'⟩ (fun r => ∀ c : Dev Cert.AmaxReferenceIdeal.nD,
          r.2.mem ((c.tc : Thread Cert.AmaxReferenceIdeal.nD Cert.AmaxReferenceIdeal.τ).loc Cert.AmaxReferenceIdeal.main_v10) = v0 c
          ∧ r.2.mem ((c.tc : Thread Cert.AmaxReferenceIdeal.nD Cert.AmaxReferenceIdeal.τ).loc Cert.AmaxReferenceIdeal.main_arg0) = m' ((c.tc : Thread Cert.AmaxReferenceIdeal.nD Cert.AmaxReferenceIdeal.τ).loc Cert.AmaxReferenceIdeal.main_arg0)
          ∧ r.2.mem ((c.tc : Thread Cert.AmaxReferenceIdeal.nD Cert.AmaxReferenceIdeal.τ).loc Cert.AmaxReferenceIdeal.main_arg1) = m' ((c.tc : Thread Cert.AmaxReferenceIdeal.nD Cert.AmaxReferenceIdeal.τ).loc Cert.AmaxReferenceIdeal.main_arg1))

def preserves_Xsb_XsbIdeal : Prop :=
  True

def algebraic_XsbIdeal_XsbReferenceIdeal [hXsbIdeal : Cert.XsbIdeal.Facts] [hXsbReferenceIdeal : Cert.XsbReferenceIdeal.Facts] : Prop :=
  ∀ (m : (ℓ : Loc Cert.XsbIdeal.nD Cert.XsbIdeal.τ Cert.XsbIdeal.sig) → Buf (Elt Ideal) ℓ) (g : Dev Cert.XsbIdeal.nD → PrngReg)
    (m' : (ℓ : Loc Cert.XsbReferenceIdeal.nD Cert.XsbReferenceIdeal.τ Cert.XsbReferenceIdeal.sig) → Buf (Elt Ideal) ℓ) (g' : Dev Cert.XsbReferenceIdeal.nD → PrngReg), Pre_XsbIdeal m →
    (∀ c : Dev Cert.XsbIdeal.nD,
      m' ((c.tc : Thread Cert.XsbReferenceIdeal.nD Cert.XsbReferenceIdeal.τ).loc Cert.XsbReferenceIdeal.main_arg0) = m ((c.tc : Thread Cert.XsbIdeal.nD Cert.XsbIdeal.τ).loc Cert.XsbIdeal.main_arg0)
      ∧ m' ((c.tc : Thread Cert.XsbReferenceIdeal.nD Cert.XsbReferenceIdeal.τ).loc Cert.XsbReferenceIdeal.main_arg1) = m ((c.tc : Thread Cert.XsbIdeal.nD Cert.XsbIdeal.τ).loc Cert.XsbIdeal.main_arg1)) →
    ∃ (v0 : (c : Dev Cert.XsbIdeal.nD) → Buf (Elt Ideal) ((c.tc : Thread Cert.XsbIdeal.nD Cert.XsbIdeal.τ).loc Cert.XsbIdeal.main_v0)),
      θ_run (Cert.XsbIdeal.defs (F := Ideal)) (onTc (τ := Cert.XsbIdeal.τ) (Cert.XsbIdeal.main (F := Ideal))) ⟨m, fun _ => 0, g⟩ (fun r => ∀ c : Dev Cert.XsbIdeal.nD,
          r.2.mem ((c.tc : Thread Cert.XsbIdeal.nD Cert.XsbIdeal.τ).loc Cert.XsbIdeal.main_v0) = v0 c
          ∧ r.2.mem ((c.tc : Thread Cert.XsbIdeal.nD Cert.XsbIdeal.τ).loc Cert.XsbIdeal.main_arg0) = m ((c.tc : Thread Cert.XsbIdeal.nD Cert.XsbIdeal.τ).loc Cert.XsbIdeal.main_arg0)
          ∧ r.2.mem ((c.tc : Thread Cert.XsbIdeal.nD Cert.XsbIdeal.τ).loc Cert.XsbIdeal.main_arg1) = m ((c.tc : Thread Cert.XsbIdeal.nD Cert.XsbIdeal.τ).loc Cert.XsbIdeal.main_arg1))
      ∧ θ_run (Cert.XsbReferenceIdeal.defs (F := Ideal)) (onTc (τ := Cert.XsbReferenceIdeal.τ) (Cert.XsbReferenceIdeal.main (F := Ideal))) ⟨m', fun _ => 0, g'⟩ (fun r => ∀ c : Dev Cert.XsbReferenceIdeal.nD,
          r.2.mem ((c.tc : Thread Cert.XsbReferenceIdeal.nD Cert.XsbReferenceIdeal.τ).loc Cert.XsbReferenceIdeal.main_v11) = v0 c
          ∧ r.2.mem ((c.tc : Thread Cert.XsbReferenceIdeal.nD Cert.XsbReferenceIdeal.τ).loc Cert.XsbReferenceIdeal.main_arg0) = m' ((c.tc : Thread Cert.XsbReferenceIdeal.nD Cert.XsbReferenceIdeal.τ).loc Cert.XsbReferenceIdeal.main_arg0)
          ∧ r.2.mem ((c.tc : Thread Cert.XsbReferenceIdeal.nD Cert.XsbReferenceIdeal.τ).loc Cert.XsbReferenceIdeal.main_arg1) = m' ((c.tc : Thread Cert.XsbReferenceIdeal.nD Cert.XsbReferenceIdeal.τ).loc Cert.XsbReferenceIdeal.main_arg1))

def Claim : Prop :=
  ∃ (hKernel : Cert.Kernel.Facts) (hKernelIdeal : Cert.KernelIdeal.Facts) (hReferenceIdeal : Cert.ReferenceIdeal.Facts) (hAmax : Cert.Amax.Facts) (hAmaxIdeal : Cert.AmaxIdeal.Facts) (hAmaxReferenceIdeal : Cert.AmaxReferenceIdeal.Facts) (hXsb : Cert.Xsb.Facts) (hXsbIdeal : Cert.XsbIdeal.Facts) (hXsbReferenceIdeal : Cert.XsbReferenceIdeal.Facts),
    quiescent_Kernel (hKernel := hKernel)
    ∧ quiescent_KernelIdeal (hKernelIdeal := hKernelIdeal)
    ∧ quiescent_ReferenceIdeal (hReferenceIdeal := hReferenceIdeal)
    ∧ quiescent_Amax (hAmax := hAmax)
    ∧ quiescent_AmaxIdeal (hAmaxIdeal := hAmaxIdeal)
    ∧ quiescent_AmaxReferenceIdeal (hAmaxReferenceIdeal := hAmaxReferenceIdeal)
    ∧ quiescent_Xsb (hXsb := hXsb)
    ∧ quiescent_XsbIdeal (hXsbIdeal := hXsbIdeal)
    ∧ quiescent_XsbReferenceIdeal (hXsbReferenceIdeal := hXsbReferenceIdeal)
    ∧ preserves_Kernel_KernelIdeal
    ∧ algebraic_KernelIdeal_ReferenceIdeal (hKernelIdeal := hKernelIdeal) (hReferenceIdeal := hReferenceIdeal)
    ∧ preserves_Amax_AmaxIdeal
    ∧ algebraic_AmaxIdeal_AmaxReferenceIdeal (hAmaxIdeal := hAmaxIdeal) (hAmaxReferenceIdeal := hAmaxReferenceIdeal)
    ∧ preserves_Xsb_XsbIdeal
    ∧ algebraic_XsbIdeal_XsbReferenceIdeal (hXsbIdeal := hXsbIdeal) (hXsbReferenceIdeal := hXsbReferenceIdeal)
-- ==== Kernel.lean ====
abbrev S2 : Shape := ⟨1, ![2]⟩
abbrev S960x4096 : Shape := ⟨2, ![960, 4096]⟩
abbrev S14336x4096 : Shape := ⟨2, ![14336, 4096]⟩
abbrev S1920x14336 : Shape := ⟨2, ![1920, 14336]⟩
abbrev S512x4096 : Shape := ⟨2, ![512, 4096]⟩
abbrev S1920x512 : Shape := ⟨2, ![1920, 512]⟩
abbrev S256x4096 : Shape := ⟨2, ![256, 4096]⟩
abbrev S1 : Shape := ⟨1, ![1]⟩
abbrev S64x256 : Shape := ⟨2, ![64, 256]⟩
abbrev S32x256 : Shape := ⟨2, ![32, 256]⟩
abbrev S192x4096 : Shape := ⟨2, ![192, 4096]⟩
abbrev S384x4096 : Shape := ⟨2, ![384, 4096]⟩
abbrev S384x512 : Shape := ⟨2, ![384, 512]⟩

abbrev nBuf : Space → Nat
  | .hbm => 4
  | .vmem => 7
  | .smem => 1
  | _ => 0

abbrev bufTy : (tb : Table) → Fin (tcTables nBuf tb) → BufTy
  | .hbm, ⟨0, _⟩ => ⟨S2, .f32⟩
  | .hbm, ⟨1, _⟩ => ⟨S960x4096, .i32⟩
  | .hbm, ⟨2, _⟩ => ⟨S14336x4096, .bf16⟩
  | .hbm, ⟨3, _⟩ => ⟨S1920x14336, .bf16⟩
  | .local _ .vmem, ⟨0, _⟩ => ⟨S960x4096, .i32⟩
  | .local _ .vmem, ⟨1, _⟩ => ⟨S512x4096, .bf16⟩
  | .local _ .vmem, ⟨2, _⟩ => ⟨S512x4096, .bf16⟩
  | .local _ .vmem, ⟨3, _⟩ => ⟨S1920x512, .bf16⟩
  | .local _ .vmem, ⟨4, _⟩ => ⟨S1920x512, .bf16⟩
  | .local _ .vmem, ⟨5, _⟩ => ⟨S256x4096, .i32⟩
  | .local _ .vmem, ⟨6, _⟩ => ⟨S256x4096, .i32⟩
  | .local _ .smem, ⟨0, _⟩ => ⟨S2, .f32⟩
  | _, _ => ⟨S2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .smem, ⟨0, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg1_0 : Ref sig .tc := ⟨.vmem, 0, rfl⟩
abbrev cc0_stg2_0 : Ref sig .tc := ⟨.vmem, 1, rfl⟩
abbrev cc0_stg2_1 : Ref sig .tc := ⟨.vmem, 2, rfl⟩
abbrev cc0_stg3_0 : Ref sig .tc := ⟨.vmem, 3, rfl⟩
abbrev cc0_stg3_1 : Ref sig .tc := ⟨.vmem, 4, rfl⟩
abbrev cc0_scratch0 : Ref sig .tc := ⟨.vmem, 5, rfl⟩
abbrev cc0_scratch1 : Ref sig .tc := ⟨.vmem, 6, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5

abbrev nD : Nat := 1
abbrev τ : Topo := Topo.v7x

variable {F : FTy → Type} [BitOps F]

abbrev grid0 : Pipeline.Grid := ⟨1, ![29], ![false]⟩

def k0_cond2 (i : grid0.Coords) : BitVec 1 :=
  let arg0 : BitVec 32 := BitVec.ofNat 32 (i 0).val
  let c0_i32_1 : BitVec 32 := 0#32
  let v6 : BitVec 1 := Scalar.cmpi .sgt arg0 c0_i32_1
  let c28_i32 : BitVec 32 := 28#32
  let v7 : BitVec 1 := Scalar.cmpi .slt arg0 c28_i32
  let v8 : BitVec 1 := Scalar.andi v6 v7
  let c2_i32 : BitVec 32 := 2#32
  let c0_i32_2 : BitVec 32 := 0#32
  let v9 : BitVec 1 := Scalar.cmpi .eq c2_i32 c0_i32_2
  let c1_i32 : BitVec 32 := 1#32
  let v10 : BitVec 32 := Scalar.select v9 c1_i32 c2_i32
  let v11 : BitVec 32 := Scalar.remsi arg0 v10
  let c0_i32_4 : BitVec 32 := 0#32
  let v13 : BitVec 1 := Scalar.cmpi .slt v11 c0_i32_4
  let c0_i32_5 : BitVec 32 := 0#32
  let v14 : BitVec 1 := Scalar.cmpi .slt v10 c0_i32_5
  let v15 : BitVec 1 := Scalar.xori v13 v14
  let c0_i32_3 : BitVec 32 := 0#32
  let v12 : BitVec 1 := Scalar.cmpi .ne v11 c0_i32_3
  let v16 : BitVec 1 := Scalar.andi v15 v12
  let v17 : BitVec 32 := Scalar.addi v11 v10
  let v18 : BitVec 32 := Scalar.select v16 v17 v11
  let c1_i32_6 : BitVec 32 := 1#32
  let v19 : BitVec 1 := Scalar.cmpi .eq v18 c1_i32_6
  let v20 : BitVec 1 := Scalar.andi v8 v19
  let v21 : BitVec 32 := Scalar.extui v20
  let c0_i32_7 : BitVec 32 := 0#32
  let v22 : BitVec 1 := Scalar.cmpi .ne v21 c0_i32_7
  v22

def k0_cond3 (i : grid0.Coords) : BitVec 1 :=
  let arg0 : BitVec 32 := BitVec.ofNat 32 (i 0).val
  let c0_i32_8 : BitVec 32 := 0#32
  let v23 : BitVec 1 := Scalar.cmpi .sgt arg0 c0_i32_8
  let c28_i32_9 : BitVec 32 := 28#32
  let v24 : BitVec 1 := Scalar.cmpi .slt arg0 c28_i32_9
  let v25 : BitVec 1 := Scalar.andi v23 v24
  let c2_i32_10 : BitVec 32 := 2#32
  let c0_i32_11 : BitVec 32 := 0#32
  let v26 : BitVec 1 := Scalar.cmpi .eq c2_i32_10 c0_i32_11
  let c1_i32_12 : BitVec 32 := 1#32
  let v27 : BitVec 32 := Scalar.select v26 c1_i32_12 c2_i32_10
  let v28 : BitVec 32 := Scalar.remsi arg0 v27
  let c0_i32_14 : BitVec 32 := 0#32
  let v30 : BitVec 1 := Scalar.cmpi .slt v28 c0_i32_14
  let c0_i32_15 : BitVec 32 := 0#32
  let v31 : BitVec 1 := Scalar.cmpi .slt v27 c0_i32_15
  let v32 : BitVec 1 := Scalar.xori v30 v31
  let c0_i32_13 : BitVec 32 := 0#32
  let v29 : BitVec 1 := Scalar.cmpi .ne v28 c0_i32_13
  let v33 : BitVec 1 := Scalar.andi v32 v29
  let v34 : BitVec 32 := Scalar.addi v28 v27
  let v35 : BitVec 32 := Scalar.select v33 v34 v28
  let c0_i32_16 : BitVec 32 := 0#32
  let v36 : BitVec 1 := Scalar.cmpi .eq v35 c0_i32_16
  let v37 : BitVec 1 := Scalar.andi v25 v36
  let v38 : BitVec 32 := Scalar.extui v37
  let c0_i32_17 : BitVec 32 := 0#32
  let v39 : BitVec 1 := Scalar.cmpi .ne v38 c0_i32_17
  v39

def k0_cond4 (i : grid0.Coords) : BitVec 1 :=
  let arg0 : BitVec 32 := BitVec.ofNat 32 (i 0).val
  let c28_i32_18 : BitVec 32 := 28#32
  let v40 : BitVec 1 := Scalar.cmpi .eq arg0 c28_i32_18
  let v41 : BitVec 32 := Scalar.extui v40
  let c0_i32_19 : BitVec 32 := 0#32
  let v42 : BitVec 1 := Scalar.cmpi .ne v41 c0_i32_19
  v42

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c27_i32 : BitVec 32 := 27#32
  let v0 : BitVec 32 := Scalar.minsi arg0 c27_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

abbrev stage0_0 : Fin 1 → Memref sig .tc .smem S2 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S960x4096 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1920x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== KernelIdeal.lean ====
abbrev S256x2x4096 : Shape := ⟨3, ![256, 2, 4096]⟩
abbrev S256x1x4096 : Shape := ⟨3, ![256, 1, 4096]⟩
abbrev S32x2x256 : Shape := ⟨3, ![32, 2, 256]⟩
abbrev S32x1x256 : Shape := ⟨3, ![32, 1, 256]⟩
  | .local _ .vmem, ⟨5, _⟩ => ⟨S256x2x4096, .bf16⟩
  | .local _ .vmem, ⟨6, _⟩ => ⟨S256x2x4096, .bf16⟩
variable {F : FTy → Type} [FloatOps F]
-- ==== ReferenceIdeal.lean ====
abbrev S2 : Shape := ⟨1, ![2]⟩
abbrev S960x4096 : Shape := ⟨2, ![960, 4096]⟩
abbrev S14336x4096 : Shape := ⟨2, ![14336, 4096]⟩
abbrev S960x4096x2 : Shape := ⟨3, ![960, 4096, 2]⟩
abbrev S960x2x4096 : Shape := ⟨3, ![960, 2, 4096]⟩
abbrev S1920x4096 : Shape := ⟨2, ![1920, 4096]⟩
abbrev S1920x14336 : Shape := ⟨2, ![1920, 14336]⟩
abbrev S1 : Shape := ⟨1, ![1]⟩
abbrev S_ : Shape := ⟨0, ![]⟩

abbrev nBuf : Space → Nat
  | .hbm => 15
  | .vmem => 0
  | .smem => 0
  | _ => 0

abbrev bufTy : (tb : Table) → Fin (tcTables nBuf tb) → BufTy
  | .hbm, ⟨0, _⟩ => ⟨S2, .f32⟩
  | .hbm, ⟨1, _⟩ => ⟨S960x4096, .i32⟩
  | .hbm, ⟨2, _⟩ => ⟨S14336x4096, .bf16⟩
  | .hbm, ⟨3, _⟩ => ⟨S960x4096x2, .bf16⟩
  | .hbm, ⟨4, _⟩ => ⟨S960x2x4096, .bf16⟩
  | .hbm, ⟨5, _⟩ => ⟨S1920x4096, .bf16⟩
  | .hbm, ⟨6, _⟩ => ⟨S1920x14336, .f32⟩
  | .hbm, ⟨7, _⟩ => ⟨S1, .f32⟩
  | .hbm, ⟨8, _⟩ => ⟨S_, .f32⟩
  | .hbm, ⟨9, _⟩ => ⟨S1, .f32⟩
  | .hbm, ⟨10, _⟩ => ⟨S_, .f32⟩
  | .hbm, ⟨11, _⟩ => ⟨S_, .f32⟩
  | .hbm, ⟨12, _⟩ => ⟨S1920x14336, .f32⟩
  | .hbm, ⟨13, _⟩ => ⟨S1920x14336, .f32⟩
  | .hbm, ⟨14, _⟩ => ⟨S1920x14336, .bf16⟩
  | _, _ => ⟨S2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩

abbrev nD : Nat := 1
abbrev τ : Topo := Topo.v7x

variable {F : FTy → Type} [FloatOps F]
-- ==== Amax.lean ====
abbrev S1920x4096 : Shape := ⟨2, ![1920, 4096]⟩
abbrev S14336x4096 : Shape := ⟨2, ![14336, 4096]⟩
abbrev S2 : Shape := ⟨1, ![2]⟩
abbrev S512x4096 : Shape := ⟨2, ![512, 4096]⟩
abbrev S2x16x4096 : Shape := ⟨3, ![2, 16, 4096]⟩
abbrev S120x16x4096 : Shape := ⟨3, ![120, 16, 4096]⟩
abbrev S16x4096 : Shape := ⟨2, ![16, 4096]⟩
abbrev S1x16x4096 : Shape := ⟨3, ![1, 16, 4096]⟩
abbrev S32x16x4096 : Shape := ⟨3, ![32, 16, 4096]⟩
abbrev S1 : Shape := ⟨1, ![1]⟩
abbrev S1x1x1 : Shape := ⟨3, ![1, 1, 1]⟩

abbrev nBuf : Space → Nat
  | .hbm => 3
  | .vmem => 4
  | .smem => 1
  | _ => 0

abbrev bufTy : (tb : Table) → Fin (tcTables nBuf tb) → BufTy
  | .hbm, ⟨0, _⟩ => ⟨S1920x4096, .bf16⟩
  | .hbm, ⟨1, _⟩ => ⟨S14336x4096, .bf16⟩
  | .hbm, ⟨2, _⟩ => ⟨S2, .f32⟩
  | .local _ .vmem, ⟨0, _⟩ => ⟨S1920x4096, .bf16⟩
  | .local _ .vmem, ⟨1, _⟩ => ⟨S512x4096, .bf16⟩
  | .local _ .vmem, ⟨2, _⟩ => ⟨S512x4096, .bf16⟩
  | .local _ .vmem, ⟨3, _⟩ => ⟨S2x16x4096, .bf16⟩
  | .local _ .smem, ⟨0, _⟩ => ⟨S2, .f32⟩
  | _, _ => ⟨S1920x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .smem, ⟨0, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_scratch0 : Ref sig .tc := ⟨.vmem, 3, rfl⟩
abbrev cc0_stg2_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3

abbrev nD : Nat := 1
abbrev τ : Topo := Topo.v7x

variable {F : FTy → Type} [FloatOps F]

abbrev grid0 : Pipeline.Grid := ⟨1, ![28], ![false]⟩

def k0_cond2 (i : grid0.Coords) : BitVec 1 :=
  let arg0 : BitVec 32 := BitVec.ofNat 32 (i 0).val
  let c27_i32 : BitVec 32 := 27#32
  let v13 : BitVec 1 := Scalar.cmpi .eq arg0 c27_i32
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

abbrev stage0_0 : Fin 1 → Memref sig .tc .vmem S1920x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .smem S2 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== AmaxReferenceIdeal.lean ====
abbrev S1920x4096 : Shape := ⟨2, ![1920, 4096]⟩
abbrev S14336x4096 : Shape := ⟨2, ![14336, 4096]⟩
abbrev S_ : Shape := ⟨0, ![]⟩
abbrev S1 : Shape := ⟨1, ![1]⟩
abbrev S2 : Shape := ⟨1, ![2]⟩

abbrev nBuf : Space → Nat
  | .hbm => 17
  | .vmem => 0
  | .smem => 0
  | _ => 0

abbrev bufTy : (tb : Table) → Fin (tcTables nBuf tb) → BufTy
  | .hbm, ⟨0, _⟩ => ⟨S1920x4096, .bf16⟩
  | .hbm, ⟨1, _⟩ => ⟨S14336x4096, .bf16⟩
  | .hbm, ⟨2, _⟩ => ⟨S1920x4096, .f32⟩
  | .hbm, ⟨3, _⟩ => ⟨S1920x4096, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S14336x4096, .f32⟩
  | .hbm, ⟨9, _⟩ => ⟨S14336x4096, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S1, .f32⟩
  | .hbm, ⟨15, _⟩ => ⟨S1, .f32⟩
  | .hbm, ⟨16, _⟩ => ⟨S2, .f32⟩
  | _, _ => ⟨S1920x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩

abbrev nD : Nat := 1
abbrev τ : Topo := Topo.v7x

variable {F : FTy → Type} [FloatOps F]
-- ==== Xsb.lean ====
abbrev S2 : Shape := ⟨1, ![2]⟩
abbrev S1920x4096 : Shape := ⟨2, ![1920, 4096]⟩
abbrev S1920x256 : Shape := ⟨2, ![1920, 256]⟩
abbrev S128x4096 : Shape := ⟨2, ![128, 4096]⟩
abbrev S128x256 : Shape := ⟨2, ![128, 256]⟩
abbrev S8x128 : Shape := ⟨2, ![8, 128]⟩
abbrev S1 : Shape := ⟨1, ![1]⟩
abbrev S8x128x1 : Shape := ⟨3, ![8, 128, 1]⟩
abbrev S16x128 : Shape := ⟨2, ![16, 128]⟩
abbrev S16x256 : Shape := ⟨2, ![16, 256]⟩
abbrev S32x256 : Shape := ⟨2, ![32, 256]⟩
abbrev S32x128 : Shape := ⟨2, ![32, 128]⟩

abbrev nBuf : Space → Nat
  | .hbm => 3
  | .vmem => 4
  | .smem => 1
  | _ => 0

abbrev bufTy : (tb : Table) → Fin (tcTables nBuf tb) → BufTy
  | .hbm, ⟨0, _⟩ => ⟨S2, .f32⟩
  | .hbm, ⟨1, _⟩ => ⟨S1920x4096, .bf16⟩
  | .hbm, ⟨2, _⟩ => ⟨S1920x256, .fp8e4m3⟩
  | .local _ .vmem, ⟨0, _⟩ => ⟨S128x4096, .bf16⟩
  | .local _ .vmem, ⟨1, _⟩ => ⟨S128x4096, .bf16⟩
  | .local _ .vmem, ⟨2, _⟩ => ⟨S128x256, .fp8e4m3⟩
  | .local _ .vmem, ⟨3, _⟩ => ⟨S128x256, .fp8e4m3⟩
  | .local _ .smem, ⟨0, _⟩ => ⟨S2, .f32⟩
  | _, _ => ⟨S2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .smem, ⟨0, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![15], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S2 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S128x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x256 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== XsbReferenceIdeal.lean ====
abbrev S2 : Shape := ⟨1, ![2]⟩
abbrev S1920x4096 : Shape := ⟨2, ![1920, 4096]⟩
abbrev S1920x256x16 : Shape := ⟨3, ![1920, 256, 16]⟩
abbrev S_ : Shape := ⟨0, ![]⟩
abbrev S1920x256 : Shape := ⟨2, ![1920, 256]⟩
abbrev S1 : Shape := ⟨1, ![1]⟩

abbrev nBuf : Space → Nat
  | .hbm => 17
  | .vmem => 0
  | .smem => 0
  | _ => 0

abbrev bufTy : (tb : Table) → Fin (tcTables nBuf tb) → BufTy
  | .hbm, ⟨0, _⟩ => ⟨S2, .f32⟩
  | .hbm, ⟨1, _⟩ => ⟨S1920x4096, .bf16⟩
  | .hbm, ⟨2, _⟩ => ⟨S1920x4096, .f32⟩
  | .hbm, ⟨3, _⟩ => ⟨S1920x4096, .f32⟩
  | .hbm, ⟨4, _⟩ => ⟨S1920x256x16, .f32⟩
  | .hbm, ⟨5, _⟩ => ⟨S_, .f32⟩
  | .hbm, ⟨6, _⟩ => ⟨S1920x256, .f32⟩
  | .hbm, ⟨7, _⟩ => ⟨S1, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S1920x256, .f32⟩
  | .hbm, ⟨12, _⟩ => ⟨S1920x256, .f32⟩
  | .hbm, ⟨13, _⟩ => ⟨S_, .f32⟩
  | .hbm, ⟨14, _⟩ => ⟨S1920x256, .f32⟩
  | .hbm, ⟨15, _⟩ => ⟨S1920x256, .f32⟩
  | .hbm, ⟨16, _⟩ => ⟨S1920x256, .fp8e4m3⟩
  | _, _ => ⟨S2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩

abbrev nD : Nat := 1
abbrev τ : Topo := Topo.v7x

variable {F : FTy → Type} [FloatOps F]
-- ==== Proof.Forget.Runs.lean ====
/-
  The frame of the pipelined product at bits, nothing stated of its output (the generator's text for a program no value claim
  reads): what the runs of its four cases share: the conditions in closed form, the staging memrefs, the covers.
-/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: as launched (@main is the region alone). -/
abbrev V (c : Dev nD) (b : Ref sig .tc) : Buf (Elt F) ((c : Thread nD τ).loc b) := m ((c : Thread nD τ).loc b)

set_option maxHeartbeats 800000 in
/-- @main up to the region, at the certificate's variants `𝒱₀`: the region alone (`Pipeline.hmain_region` off
    `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Kernel`, Defs.lean, at any `F`). -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(Pipeline.RDat.FramePost.arr_in h c 0 rfl).trans ((hA c 0).trans (V_main_arg0 m c)),
      (Pipeline.RDat.FramePost.arr_in h c 1 rfl).trans ((hA c 1).trans (V_main_arg1 m c)),
      (Pipeline.RDat.FramePost.arr_in h c 2 rfl).trans ((hA c 2).trans (V_main_arg2 m c))⟩) h

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 29 = 0 :=
  (fun t => by
    have ht : t.val < 29 := Nat.lt_of_lt_of_eq t.isLt N_0
    have e0 : (grid0.coords t 0).val = t.val / 1 % 29 := Pipeline.Grid.coords_val t 0 (by decide) rfl
    simp only [cond0_0, e0]
    word_cmp
   : ∀ t : Fin grid0.N, cond0_0 (grid0.coords t) ↔ t.val % 29 = 0)

/-- The condition of the body's `scf.if` 1 (`k0_h2`), from the grid coordinates (the skeleton's scalar
    chain substituted). -/
abbrev cond0_1 (i : grid0.Coords) : Prop := k0_cond2 i = 1#1
/-- It holds at the points ≡ 1 (mod 2) — decided over the grid. -/
theorem hcond0_1 : ∀ t : Fin cfg0.N, cond0_1 (grid0.coords t) ↔ t.val % 2 = 1 :=
  (by decide +kernel : ∀ t : Fin grid0.N, cond0_1 (grid0.coords t) ↔ t.val % 2 = 1)

/-- The condition of the body's `scf.if` 2 (`k0_h3`), from the grid coordinates (the skeleton's scalar
    chain substituted). -/
abbrev cond0_2 (i : grid0.Coords) : Prop := k0_cond3 i = 1#1
/-- It holds at points 2, 4, 6, 8, 10, 12, 14, 16, 18, 20, 22, 24 and 26 only — decided over the grid. -/
theorem hcond0_2 : ∀ t : Fin cfg0.N, cond0_2 (grid0.coords t) ↔ (t.val % 29 = 2 ∨ t.val % 29 = 4 ∨ t.val % 29 = 6 ∨ t.val % 29 = 8 ∨ t.val % 29 = 10 ∨ t.val % 29 = 12 ∨ t.val % 29 = 14 ∨ t.val % 29 = 16 ∨ t.val % 29 = 18 ∨ t.val % 29 = 20 ∨ t.val % 29 = 22 ∨ t.val % 29 = 24 ∨ t.val % 29 = 26) :=
  (by decide +kernel : ∀ t : Fin grid0.N, cond0_2 (grid0.coords t) ↔ (t.val % 29 = 2 ∨ t.val % 29 = 4 ∨ t.val % 29 = 6 ∨ t.val % 29 = 8 ∨ t.val % 29 = 10 ∨ t.val % 29 = 12 ∨ t.val % 29 = 14 ∨ t.val % 29 = 16 ∨ t.val % 29 = 18 ∨ t.val % 29 = 20 ∨ t.val % 29 = 22 ∨ t.val % 29 = 24 ∨ t.val % 29 = 26))

/-- The condition of the body's `scf.if` 3 (`k0_h4`), from the grid coordinates (the skeleton's scalar
    chain substituted). -/
abbrev cond0_3 (i : grid0.Coords) : Prop := k0_cond4 i = 1#1
/-- It holds at the last point only — by arithmetic of the point. -/
theorem hcond0_3 : ∀ t : Fin cfg0.N, cond0_3 (grid0.coords t) ↔ t.val % 29 = 28 :=
  (fun t => by
    have ht : t.val < 29 := Nat.lt_of_lt_of_eq t.isLt N_0
    have e0 : (grid0.coords t 0).val = t.val / 1 % 29 := Pipeline.Grid.coords_val t 0 (by decide) rfl
    simp only [cond0_3, k0_cond4, e0]
    word_cmp
   : ∀ t : Fin grid0.N, cond0_3 (grid0.coords t) ↔ t.val % 29 = 28)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .smem S2 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S960x4096 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x4096 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1920x512 .bf16 := win0_3.stage (cfg0.slots t 3)
abbrev hs0_3 (t : Fin cfg0.N) : (ms0_3 t).IsWhole := hstage0_3 ((cfg0.slots t 3).cast nbuf0_3)
/-- The scratch operands: whole scoped buffers of the kernel's own, passed beside the windows. -/
abbrev scM0_0 : Memref sig .tc .vmem S256x4096 .i32 := Memref.whole cc0_scratch0
abbrev scM0_1 : Memref sig .tc .vmem S256x4096 .i32 := Memref.whole cc0_scratch1

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.Kernel.Gen

end
-- ==== Proof.Forget.RunA.lean ====
/-
  The frame of the pipelined product at bits, nothing stated of its output (the generator's text for a program no value claim
  reads): the run of case A.
-/
module

public import proofs.«01_k».proof.Proof.Forget.Runs

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 2416000 in
/-- The body's triple IN CASE A (`scf.if` 0 taken, `scf.if` 1 not taken, `scf.if` 2 not taken, `scf.if` 3 not taken: points 0): on whole staging memrefs — the inputs' at their contents,
    the FORGOTTEN outputs' (3) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_A (c : Dev nD) (i : grid0.Coords) (arg1 : Memref sig .tc .smem S2 .f32) (harg1 : arg1.IsWhole) (arg2 : Memref sig .tc .vmem S960x4096 .i32) (harg2 : arg2.IsWhole) (arg3 : Memref sig .tc .vmem S512x4096 .bf16) (harg3 : arg3.IsWhole) (arg4 : Memref sig .tc .vmem S1920x512 .bf16) (harg4 : arg4.IsWhole) (arg5 : Memref sig .tc .vmem S256x4096 .i32) (harg5 : arg5.IsWhole) (arg6 : Memref sig .tc .vmem S256x4096 .i32) (harg6 : arg6.IsWhole) (hc0 : cond0_0 i) (hc1 : ¬cond0_1 i) (hc2 : ¬cond0_2 i) (hc3 : ¬cond0_3 i)
    (x0 : Vec F S2 .f32) (x1 : Vec F S960x4096 .i32) (x2 : Vec F S512x4096 .bf16) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d)) -∗ K ⟨⟩))
          ⊢ wp frame (wpE (defs₀ (F := F)) Variants.none c none) E (cc0_main i arg1 harg1 arg2 harg2 arg3 harg3 arg4 harg4 arg5 harg5 arg6 harg6) K := by
    intro E K
    simp only [cc0_main_eq_skeleton]; unfold cc0_main_skel
    simp only [k0_part69_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton]
    unfold owns
    iintro ⟨⟨%f0, %hf0, H0⟩, ⟨%f1, %hf1, H1⟩, ⟨%f2, %hf2, H2⟩, ⟨%d3, %f3, -, H3⟩, ⟨%ds0, %fs0, -, HS0⟩, ⟨%ds1, %fs1, -, HS1⟩, Hk⟩
    obtain rfl := harg1.eq_unread hf0; obtain rfl := harg2.eq_unread hf1; obtain rfl := harg3.eq_unread hf2
    sl_exec (disch := first | sl_exact hc0 | sl_exact hc1 | sl_exact hc2 | sl_exact hc3)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _, _; isplitr; swap; · iexact H3
      ipureintro; rfl
    isplitl [HS0]
    · iexists _, _; isplitr; swap; · iexact HS0
      ipureintro; rfl
    iexists _, _; isplitr; swap; · iexact HS1
    ipureintro; rfl

end Cert.Kernel.Gen

end
-- ==== Proof.Forget.RunB.lean ====
/-
  The frame of the pipelined product at bits, nothing stated of its output (the generator's text for a program no value claim
  reads): the run of case B.
-/
module

public import proofs.«01_k».proof.Proof.Forget.RunA

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 2544000 in
/-- The body's triple IN CASE B (`scf.if` 0 not taken, `scf.if` 1 taken, `scf.if` 2 not taken, `scf.if` 3 not taken: points 1, 3, … 27: 14 of 29): on whole staging memrefs — the inputs' at their contents,
    the FORGOTTEN outputs' (3) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_B (c : Dev nD) (i : grid0.Coords) (arg1 : Memref sig .tc .smem S2 .f32) (harg1 : arg1.IsWhole) (arg2 : Memref sig .tc .vmem S960x4096 .i32) (harg2 : arg2.IsWhole) (arg3 : Memref sig .tc .vmem S512x4096 .bf16) (harg3 : arg3.IsWhole) (arg4 : Memref sig .tc .vmem S1920x512 .bf16) (harg4 : arg4.IsWhole) (arg5 : Memref sig .tc .vmem S256x4096 .i32) (harg5 : arg5.IsWhole) (arg6 : Memref sig .tc .vmem S256x4096 .i32) (harg6 : arg6.IsWhole) (hc0 : ¬cond0_0 i) (hc1 : cond0_1 i) (hc2 : ¬cond0_2 i) (hc3 : ¬cond0_3 i)
    (x0 : Vec F S2 .f32) (x1 : Vec F S960x4096 .i32) (x2 : Vec F S512x4096 .bf16) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d)) -∗ K ⟨⟩))
          ⊢ wp frame (wpE (defs₀ (F := F)) Variants.none c none) E (cc0_main i arg1 harg1 arg2 harg2 arg3 harg3 arg4 harg4 arg5 harg5 arg6 harg6) K := by
    intro E K
    simp only [cc0_main_eq_skeleton]; unfold cc0_main_skel
    simp only [k0_part69_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton]
    unfold owns
    iintro ⟨⟨%f0, %hf0, H0⟩, ⟨%f1, %hf1, H1⟩, ⟨%f2, %hf2, H2⟩, ⟨%d3, %f3, -, H3⟩, ⟨%ds0, %fs0, -, HS0⟩, ⟨%ds1, %fs1, -, HS1⟩, Hk⟩
    obtain rfl := harg1.eq_unread hf0; obtain rfl := harg2.eq_unread hf1; obtain rfl := harg3.eq_unread hf2
    sl_exec (disch := first | sl_exact hc0 | sl_exact hc1 | sl_exact hc2 | sl_exact hc3)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _, _; isplitr; swap; · iexact H3
      ipureintro; rfl
    isplitl [HS0]
    · iexists _, _; isplitr; swap; · iexact HS0
      ipureintro; rfl
    iexists _, _; isplitr; swap; · iexact HS1
    ipureintro; rfl

end Cert.Kernel.Gen

end
-- ==== Proof.Forget.RunC.lean ====
/-
  The frame of the pipelined product at bits, nothing stated of its output (the generator's text for a program no value claim
  reads): the run of case C.
-/
module

public import proofs.«01_k».proof.Proof.Forget.RunB

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 2544000 in
/-- The body's triple IN CASE C (`scf.if` 0 not taken, `scf.if` 1 not taken, `scf.if` 2 taken, `scf.if` 3 not taken: points 2, 4, … 26: 13 of 29): on whole staging memrefs — the inputs' at their contents,
    the FORGOTTEN outputs' (3) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_C (c : Dev nD) (i : grid0.Coords) (arg1 : Memref sig .tc .smem S2 .f32) (harg1 : arg1.IsWhole) (arg2 : Memref sig .tc .vmem S960x4096 .i32) (harg2 : arg2.IsWhole) (arg3 : Memref sig .tc .vmem S512x4096 .bf16) (harg3 : arg3.IsWhole) (arg4 : Memref sig .tc .vmem S1920x512 .bf16) (harg4 : arg4.IsWhole) (arg5 : Memref sig .tc .vmem S256x4096 .i32) (harg5 : arg5.IsWhole) (arg6 : Memref sig .tc .vmem S256x4096 .i32) (harg6 : arg6.IsWhole) (hc0 : ¬cond0_0 i) (hc1 : ¬cond0_1 i) (hc2 : cond0_2 i) (hc3 : ¬cond0_3 i)
    (x0 : Vec F S2 .f32) (x1 : Vec F S960x4096 .i32) (x2 : Vec F S512x4096 .bf16) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d)) -∗ K ⟨⟩))
          ⊢ wp frame (wpE (defs₀ (F := F)) Variants.none c none) E (cc0_main i arg1 harg1 arg2 harg2 arg3 harg3 arg4 harg4 arg5 harg5 arg6 harg6) K := by
    intro E K
    simp only [cc0_main_eq_skeleton]; unfold cc0_main_skel
    simp only [k0_part69_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton]
    unfold owns
    iintro ⟨⟨%f0, %hf0, H0⟩, ⟨%f1, %hf1, H1⟩, ⟨%f2, %hf2, H2⟩, ⟨%d3, %f3, -, H3⟩, ⟨%ds0, %fs0, -, HS0⟩, ⟨%ds1, %fs1, -, HS1⟩, Hk⟩
    obtain rfl := harg1.eq_unread hf0; obtain rfl := harg2.eq_unread hf1; obtain rfl := harg3.eq_unread hf2
    sl_exec (disch := first | sl_exact hc0 | sl_exact hc1 | sl_exact hc2 | sl_exact hc3)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _, _; isplitr; swap; · iexact H3
      ipureintro; rfl
    isplitl [HS0]
    · iexists _, _; isplitr; swap; · iexact HS0
      ipureintro; rfl
    iexists _, _; isplitr; swap; · iexact HS1
    ipureintro; rfl

end Cert.Kernel.Gen

end
-- ==== Proof.Forget.RunD.lean ====
/-
  The frame of the pipelined product at bits, nothing stated of its output (the generator's text for a program no value claim
  reads): the run of case D.
-/
module

public import proofs.«01_k».proof.Proof.Forget.RunC

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 1000000 in
/-- The body's triple IN CASE D (`scf.if` 0 not taken, `scf.if` 1 not taken, `scf.if` 2 not taken, `scf.if` 3 taken: points 28): on whole staging memrefs — the inputs' at their contents,
    the FORGOTTEN outputs' (3) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_D (c : Dev nD) (i : grid0.Coords) (arg1 : Memref sig .tc .smem S2 .f32) (harg1 : arg1.IsWhole) (arg2 : Memref sig .tc .vmem S960x4096 .i32) (harg2 : arg2.IsWhole) (arg3 : Memref sig .tc .vmem S512x4096 .bf16) (harg3 : arg3.IsWhole) (arg4 : Memref sig .tc .vmem S1920x512 .bf16) (harg4 : arg4.IsWhole) (arg5 : Memref sig .tc .vmem S256x4096 .i32) (harg5 : arg5.IsWhole) (arg6 : Memref sig .tc .vmem S256x4096 .i32) (harg6 : arg6.IsWhole) (hc0 : ¬cond0_0 i) (hc1 : ¬cond0_1 i) (hc2 : ¬cond0_2 i) (hc3 : cond0_3 i)
    (x0 : Vec F S2 .f32) (x1 : Vec F S960x4096 .i32) (x2 : Vec F S512x4096 .bf16) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d)) -∗ K ⟨⟩))
          ⊢ wp frame (wpE (defs₀ (F := F)) Variants.none c none) E (cc0_main i arg1 harg1 arg2 harg2 arg3 harg3 arg4 harg4 arg5 harg5 arg6 harg6) K := by
    intro E K
    simp only [cc0_main_eq_skeleton]; unfold cc0_main_skel
    simp only [k0_part69_eq_skeleton, k0_part68_eq_skeleton]
    unfold owns
    iintro ⟨⟨%f0, %hf0, H0⟩, ⟨%f1, %hf1, H1⟩, ⟨%f2, %hf2, H2⟩, ⟨%d3, %f3, -, H3⟩, ⟨%ds0, %fs0, -, HS0⟩, ⟨%ds1, %fs1, -, HS1⟩, Hk⟩
    obtain rfl := harg1.eq_unread hf0; obtain rfl := harg2.eq_unread hf1; obtain rfl := harg3.eq_unread hf2
    sl_exec (disch := first | sl_exact hc0 | sl_exact hc1 | sl_exact hc2 | sl_exact hc3)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _, _; isplitr; swap; · iexact H3
      ipureintro; rfl
    isplitl [HS0]
    · iexists _, _; isplitr; swap; · iexact HS0
      ipureintro; rfl
    iexists _, _; isplitr; swap; · iexact HS1
    ipureintro; rfl

end Cert.Kernel.Gen

end
-- ==== Proof.Forget.Frame.lean ====
/-
  The frame of the pipelined product at bits, nothing stated of its output (the generator's text for a program no value claim
  reads): the proof data, the body obligation and the frame.
-/
module

public import proofs.«01_k».proof.Proof.Forget.RunD
public import Idealize.ShloMosaic.Lib.Claim

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)
/-! ## The pipeline's proof data -/

/-- The output windows this certificate FORGETS (3): nothing reads what the kernel leaves in them, so nothing
    of it is named (Lib/Pipeline/Dat.lean `Dat.toRForget`). -/
def forgets0 : Fin 4 → Bool := fun w => w.val == 3

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, h⟩ => Pipeline.Dat.unnamed (cfg := cfg0) ⟨3, h⟩ t
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (∃ d, owns (c : Thread nD τ) (ms0_3 t) fullShare d))

set_option maxHeartbeats 1600000 in
/-- The body at any point: the inputs' memrefs hold their blocks (`before0_W`); the closed forms say which case the point is in (`by_cases`), an output the case reads before covering holds what the point before left (`before0_W_κ`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl]
  rw [show (dats m 0 c).Φ t.castSucc = Pipeline.ΦA spec0 c from rfl, PhiA0_eq]
  have hN : t.val < 29 := lt_of_lt_of_eq t.isLt (show cfg0.N = 29 from N_0)
  by_cases h0 : t.val % 29 = 0
  · by_cases h1 : t.val % 2 = 1
    · exfalso; omega
    · by_cases h2 : (t.val % 29 = 2 ∨ t.val % 29 = 4 ∨ t.val % 29 = 6 ∨ t.val % 29 = 8 ∨ t.val % 29 = 10 ∨ t.val % 29 = 12 ∨ t.val % 29 = 14 ∨ t.val % 29 = 16 ∨ t.val % 29 = 18 ∨ t.val % 29 = 20 ∨ t.val % 29 = 22 ∨ t.val % 29 = 24 ∨ t.val % 29 = 26)
      · exfalso; omega
      · by_cases h3 : t.val % 29 = 28
        · exfalso; omega
        · rw [show (dats m 0 c).leavesExact 0 t = owns (c : Thread nD τ) (ms0_0 t) fullShare ((dats m 0 c).after 0 t) from by
      unfold Dat.leavesExact; rw [liveAt0_0 t], after0_0]
          rw [show (dats m 0 c).leavesExact 1 t = owns (c : Thread nD τ) (ms0_1 t) fullShare ((dats m 0 c).after 1 t) from by
      unfold Dat.leavesExact; rw [liveAt0_1 t], after0_1]
          rw [show (dats m 0 c).leavesExact 2 t = owns (c : Thread nD τ) (ms0_2 t) fullShare ((dats m 0 c).after 2 t) from by
      unfold Dat.leavesExact; rw [liveAt0_2 t], after0_2]
          iintro ⟨⟨⟨HS0, HS1⟩, Hg⟩, Ho, ⟨%d0, H0⟩, ⟨%d1, H1⟩, ⟨%d2, H2⟩, ⟨%d3, H3⟩⟩
          iapply ((kernelRun0_A c (grid0.coords t) _ _ _ _ _ _ _ _ _ _ _ _ ((hcond0_0 t).mpr h0) (fun h => h1 ((hcond0_1 t).mp h)) (fun h => h2 ((hcond0_2 t).mp h)) (fun h => h3 ((hcond0_3 t).mp h)) (iblk m c 0 t) (iblk m c 1 t) (iblk m c 2 t)) Set.univ _)
          isplitl [H0]; · iexact H0
          isplitl [H1]; · iexact H1
          isplitl [H2]; · iexact H2
          isplitl [H3]; · iexists _; iexact H3
          isplitl [HS0]; · iexact HS0
          isplitl [HS1]; · iexact HS1
          iintro ⟨H0, H1, H2, H3, HS0, HS1⟩
          isplitl [HS0 HS1 Hg]
          · isplitl [HS0 HS1]
            · isplitl [HS0]
              · iexact HS0
              iexact HS1
            iexact Hg
          isplitl [Ho]; · iexact Ho
          isplitl [H0]; · iexact H0
          isplitl [H1]; · iexact H1
          isplitl [H2]; · iexact H2
          iexact H3
  · by_cases h1 : t.val % 2 = 1
    · by_cases h2 : (t.val % 29 = 2 ∨ t.val % 29 = 4 ∨ t.val % 29 = 6 ∨ t.val % 29 = 8 ∨ t.val % 29 = 10 ∨ t.val % 29 = 12 ∨ t.val % 29 = 14 ∨ t.val % 29 = 16 ∨ t.val % 29 = 18 ∨ t.val % 29 = 20 ∨ t.val % 29 = 22 ∨ t.val % 29 = 24 ∨ t.val % 29 = 26)
      · exfalso; omega
      · by_cases h3 : t.val % 29 = 28
        · exfalso; omega
        · rw [show (dats m 0 c).leavesExact 0 t = owns (c : Thread nD τ) (ms0_0 t) fullShare ((dats m 0 c).after 0 t) from by
      unfold Dat.leavesExact; rw [liveAt0_0 t], after0_0]
          rw [show (dats m 0 c).leavesExact 1 t = owns (c : Thread nD τ) (ms0_1 t) fullShare ((dats m 0 c).after 1 t) from by
      unfold Dat.leavesExact; rw [liveAt0_1 t], after0_1]
          rw [show (dats m 0 c).leavesExact 2 t = owns (c : Thread nD τ) (ms0_2 t) fullShare ((dats m 0 c).after 2 t) from by
      unfold Dat.leavesExact; rw [liveAt0_2 t], after0_2]
          iintro ⟨⟨⟨HS0, HS1⟩, Hg⟩, Ho, ⟨%d0, H0⟩, ⟨%d1, H1⟩, ⟨%d2, H2⟩, ⟨%d3, H3⟩⟩
          iapply ((kernelRun0_B c (grid0.coords t) _ _ _ _ _ _ _ _ _ _ _ _ (fun h => h0 ((hcond0_0 t).mp h)) ((hcond0_1 t).mpr h1) (fun h => h2 ((hcond0_2 t).mp h)) (fun h => h3 ((hcond0_3 t).mp h)) (iblk m c 0 t) (iblk m c 1 t) (iblk m c 2 t)) Set.univ _)
          isplitl [H0]; · iexact H0
          isplitl [H1]; · iexact H1
          isplitl [H2]; · iexact H2
          isplitl [H3]; · iexists _; iexact H3
          isplitl [HS0]; · iexact HS0
          isplitl [HS1]; · iexact HS1
          iintro ⟨H0, H1, H2, H3, HS0, HS1⟩
          isplitl [HS0 HS1 Hg]
          · isplitl [HS0 HS1]
            · isplitl [HS0]
              · iexact HS0
              iexact HS1
            iexact Hg
          isplitl [Ho]; · iexact Ho
          isplitl [H0]; · iexact H0
          isplitl [H1]; · iexact H1
          isplitl [H2]; · iexact H2
          iexact H3
    · by_cases h2 : (t.val % 29 = 2 ∨ t.val % 29 = 4 ∨ t.val % 29 = 6 ∨ t.val % 29 = 8 ∨ t.val % 29 = 10 ∨ t.val % 29 = 12 ∨ t.val % 29 = 14 ∨ t.val % 29 = 16 ∨ t.val % 29 = 18 ∨ t.val % 29 = 20 ∨ t.val % 29 = 22 ∨ t.val % 29 = 24 ∨ t.val % 29 = 26)
      · by_cases h3 : t.val % 29 = 28
        · exfalso; omega
        · rw [show (dats m 0 c).leavesExact 0 t = owns (c : Thread nD τ) (ms0_0 t) fullShare ((dats m 0 c).after 0 t) from by
      unfold Dat.leavesExact; rw [liveAt0_0 t], after0_0]
          rw [show (dats m 0 c).leavesExact 1 t = owns (c : Thread nD τ) (ms0_1 t) fullShare ((dats m 0 c).after 1 t) from by
      unfold Dat.leavesExact; rw [liveAt0_1 t], after0_1]
          rw [show (dats m 0 c).leavesExact 2 t = owns (c : Thread nD τ) (ms0_2 t) fullShare ((dats m 0 c).after 2 t) from by
      unfold Dat.leavesExact; rw [liveAt0_2 t], after0_2]
          iintro ⟨⟨⟨HS0, HS1⟩, Hg⟩, Ho, ⟨%d0, H0⟩, ⟨%d1, H1⟩, ⟨%d2, H2⟩, ⟨%d3, H3⟩⟩
          iapply ((kernelRun0_C c (grid0.coords t) _ _ _ _ _ _ _ _ _ _ _ _ (fun h => h0 ((hcond0_0 t).mp h)) (fun h => h1 ((hcond0_1 t).mp h)) ((hcond0_2 t).mpr h2) (fun h => h3 ((hcond0_3 t).mp h)) (iblk m c 0 t) (iblk m c 1 t) (iblk m c 2 t)) Set.univ _)
          isplitl [H0]; · iexact H0
          isplitl [H1]; · iexact H1
          isplitl [H2]; · iexact H2
          isplitl [H3]; · iexists _; iexact H3
          isplitl [HS0]; · iexact HS0
          isplitl [HS1]; · iexact HS1
          iintro ⟨H0, H1, H2, H3, HS0, HS1⟩
          isplitl [HS0 HS1 Hg]
          · isplitl [HS0 HS1]
            · isplitl [HS0]
              · iexact HS0
              iexact HS1
            iexact Hg
          isplitl [Ho]; · iexact Ho
          isplitl [H0]; · iexact H0
          isplitl [H1]; · iexact H1
          isplitl [H2]; · iexact H2
          iexact H3
      · by_cases h3 : t.val % 29 = 28
        · rw [show (dats m 0 c).leavesExact 0 t = owns (c : Thread nD τ) (ms0_0 t) fullShare ((dats m 0 c).after 0 t) from by
      unfold Dat.leavesExact; rw [liveAt0_0 t], after0_0]
          rw [show (dats m 0 c).leavesExact 1 t = owns (c : Thread nD τ) (ms0_1 t) fullShare ((dats m 0 c).after 1 t) from by
      unfold Dat.leavesExact; rw [liveAt0_1 t], after0_1]
          rw [show (dats m 0 c).leavesExact 2 t = owns (c : Thread nD τ) (ms0_2 t) fullShare ((dats m 0 c).after 2 t) from by
      unfold Dat.leavesExact; rw [liveAt0_2 t], after0_2]
          iintro ⟨⟨⟨HS0, HS1⟩, Hg⟩, Ho, ⟨%d0, H0⟩, ⟨%d1, H1⟩, ⟨%d2, H2⟩, ⟨%d3, H3⟩⟩
          iapply ((kernelRun0_D c (grid0.coords t) _ _ _ _ _ _ _ _ _ _ _ _ (fun h => h0 ((hcond0_0 t).mp h)) (fun h => h1 ((hcond0_1 t).mp h)) (fun h => h2 ((hcond0_2 t).mp h)) ((hcond0_3 t).mpr h3) (iblk m c 0 t) (iblk m c 1 t) (iblk m c 2 t)) Set.univ _)
          isplitl [H0]; · iexact H0
          isplitl [H1]; · iexact H1
          isplitl [H2]; · iexact H2
          isplitl [H3]; · iexists _; iexact H3
          isplitl [HS0]; · iexact HS0
          isplitl [HS1]; · iexact HS1
          iintro ⟨H0, H1, H2, H3, HS0, HS1⟩
          isplitl [HS0 HS1 Hg]
          · isplitl [HS0 HS1]
            · isplitl [HS0]
              · iexact HS0
              iexact HS1
            iexact Hg
          isplitl [Ho]; · iexact Ho
          isplitl [H0]; · iexact H0
          isplitl [H1]; · iexact H1
          isplitl [H2]; · iexact H2
          iexact H3
        · exfalso; omega

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every INPUT array of the pipeline unchanged, nothing stated of the
    FORGOTTEN outputs (window 3) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (fun c => (dats m 0 c).toRForget forgets0) (A_eq m) (run_main m ρ)

/-- THE FRAME: `Cert.quiescent_Kernel`'s statement (Defs.lean) at any `F` — Proof.lean cites it at `Bits`:
    `theorem Cert.Proof.claim : Cert.Claim := ⟨Cert.Kernel.Gen.facts, fun m ρ _ => Cert.Kernel.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.Kernel.Gen

end
-- ==== Proof.Main.Base.lean ====
/-
  The pipelined matmul at the ideal reading, part 1: the branch conditions of the body in closed form, where the output
  window is idle, and the memrefs the body is called on.
-/
module

public import proofs.«01_k».proof.Proof.Gen.KernelIdeal.Frame
public import proofs.«01_k».proof.Proof.Gen.KernelIdeal.Skeleton
public import Idealize.ShloMosaic.Lib.Claim

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 29 = 0 :=
  (fun t => by
    have ht : t.val < 29 := Nat.lt_of_lt_of_eq t.isLt N_0
    have e0 : (grid0.coords t 0).val = t.val / 1 % 29 := Pipeline.Grid.coords_val t 0 (by decide) rfl
    simp only [cond0_0, e0]
    word_cmp
   : ∀ t : Fin grid0.N, cond0_0 (grid0.coords t) ↔ t.val % 29 = 0)

/-- The condition of the body's `scf.if` 1 (`k0_h2`), from the grid coordinates (the skeleton's scalar
    chain substituted). -/
abbrev cond0_1 (i : grid0.Coords) : Prop := k0_cond2 i = 1#1
/-- It holds at the points ≡ 1 (mod 2) — decided over the grid. -/
theorem hcond0_1 : ∀ t : Fin cfg0.N, cond0_1 (grid0.coords t) ↔ t.val % 2 = 1 :=
  (by decide +kernel : ∀ t : Fin grid0.N, cond0_1 (grid0.coords t) ↔ t.val % 2 = 1)

/-- The condition of the body's `scf.if` 2 (`k0_h3`), from the grid coordinates (the skeleton's scalar
    chain substituted). -/
abbrev cond0_2 (i : grid0.Coords) : Prop := k0_cond3 i = 1#1
/-- It holds at points 2, 4, 6, 8, 10, 12, 14, 16, 18, 20, 22, 24 and 26 only — decided over the grid. -/
theorem hcond0_2 : ∀ t : Fin cfg0.N, cond0_2 (grid0.coords t) ↔ (t.val % 29 = 2 ∨ t.val % 29 = 4 ∨ t.val % 29 = 6 ∨ t.val % 29 = 8 ∨ t.val % 29 = 10 ∨ t.val % 29 = 12 ∨ t.val % 29 = 14 ∨ t.val % 29 = 16 ∨ t.val % 29 = 18 ∨ t.val % 29 = 20 ∨ t.val % 29 = 22 ∨ t.val % 29 = 24 ∨ t.val % 29 = 26) :=
  (by decide +kernel : ∀ t : Fin grid0.N, cond0_2 (grid0.coords t) ↔ (t.val % 29 = 2 ∨ t.val % 29 = 4 ∨ t.val % 29 = 6 ∨ t.val % 29 = 8 ∨ t.val % 29 = 10 ∨ t.val % 29 = 12 ∨ t.val % 29 = 14 ∨ t.val % 29 = 16 ∨ t.val % 29 = 18 ∨ t.val % 29 = 20 ∨ t.val % 29 = 22 ∨ t.val % 29 = 24 ∨ t.val % 29 = 26))

/-- The condition of the body's `scf.if` 3 (`k0_h4`), from the grid coordinates (the skeleton's scalar
    chain substituted). -/
abbrev cond0_3 (i : grid0.Coords) : Prop := k0_cond4 i = 1#1
/-- It holds at the last point only — by arithmetic of the point. -/
theorem hcond0_3 : ∀ t : Fin cfg0.N, cond0_3 (grid0.coords t) ↔ t.val % 29 = 28 :=
  (fun t => by
    have ht : t.val < 29 := Nat.lt_of_lt_of_eq t.isLt N_0
    have e0 : (grid0.coords t 0).val = t.val / 1 % 29 := Pipeline.Grid.coords_val t 0 (by decide) rfl
    simp only [cond0_3, k0_cond4, e0]
    word_cmp
   : ∀ t : Fin grid0.N, cond0_3 (grid0.coords t) ↔ t.val % 29 = 28)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- At the first point the output window is idle: the body stores nothing into it. -/
theorem idleAt0_3_A : ∀ t : Fin cfg0.N, t.val = 0 → cfg0.idle 3 (grid0.coords t) = true := by decide +kernel
/-- At the first point the output's block is not written back. -/
theorem noFlush0_3_A : ∀ t : Fin cfg0.N, t.val = 0 → (cfg0.win 3).flush t = false := by decide +kernel
/-- At every later point the output window is live. -/
theorem liveAt0_3 : ∀ t : Fin cfg0.N, t.val ≠ 0 → cfg0.idle 3 (grid0.coords t) = false := by decide +kernel

/-! ## The kernel body on any staging memrefs: a subtype the run finds -/

/-- Each window's current staging memref at point `t`, spelled as the pipeline passes it (`bodyAt0`), and its wholeness. -/
abbrev ms0_0 (t : Fin cfg0.N) : Memref sig .tc .smem S2 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S960x4096 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x4096 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1920x512 .bf16 := win0_3.stage (cfg0.slots t 3)
abbrev hs0_3 (t : Fin cfg0.N) : (ms0_3 t).IsWhole := hstage0_3 ((cfg0.slots t 3).cast nbuf0_3)
/-- The scratch operands: whole scoped buffers of the kernel's own, passed beside the windows. -/
abbrev scM0_0 : Memref sig .tc .vmem S256x2x4096 .bf16 := Memref.whole cc0_scratch0
abbrev scM0_1 : Memref sig .tc .vmem S256x2x4096 .bf16 := Memref.whole cc0_scratch1

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.KernelIdeal.Gen

end
-- ==== Proof.Main.Blocks.lean ====
/-
  The pipelined matmul at the ideal reading, part 2: the values. What one grid point leaves in the output block (five row
  pieces, each a product of rows of x with the weight block held in scratch), and how a list of stores that all copy one
  block leaves that block.
-/
module

public import proofs.«01_k».proof.Proof.Main.Base
public import Idealize.ShloMosaic.Lib.Pipeline.ValueKit.Tiles
public import Idealize.ShloMosaic.Lib.ValueIdx

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The packed rows `192 k … 192 k + 191` of x (384 rows of bf16 pairs). -/
abbrev xrect (k : Fin 5) : Rect S960x4096 :=
  Rect.unit (s := S960x4096) ![192 * k.val, 0] S192x4096.size (fun a => by
    have := k.isLt
    match a with
    | ⟨0, _⟩ => show 192 * k.val + 192 ≤ 960; omega
    | ⟨1, _⟩ => show 0 + 4096 ≤ 4096; omega)

/-- The packed place (j 0, j 1, j 2) holds row 2 (j 0) + j 1. -/
def unpkIdx (j : S256x2x4096.Idx) : S512x4096.Idx
  | ⟨0, _⟩ => (⟨2 * (j 0).val + (j 1).val, by
      have h0 : (j 0).val < 256 := (j 0).isLt
      have h1 : (j 1).val < 2 := (j 1).isLt
      omega⟩ : Fin 512)
  | ⟨1, _⟩ => (j 2 : Fin 4096)

/-- A weight block as the scratch holds it: rows 2r and 2r + 1 are the two halves of the words of row r. -/
def pk (w : Vec F S512x4096 .bf16) : Vec F S256x2x4096 .bf16 := fun j => w (unpkIdx j)

/-- The product of 384 rows of x with a packed weight block, scaled and rounded to bf16. -/
def ypay (s : F .f32) (xr : Vec F S192x4096 .i32) (wp : Vec F S256x2x4096 .bf16) : FVec F S384x512 .bf16 := k0_pay3 s xr wp

/-- Row `r` of the piece that row `y` of the block lies in. -/
def yloc (y : S1920x512.Idx) : S384x512.Idx
  | ⟨0, _⟩ => ⟨(y 0).val % 384, Nat.mod_lt _ (by decide)⟩
  | ⟨1, _⟩ => y 1

/-- Which of the five row pieces row `y` lies in. -/
def ypiece (y : S1920x512.Idx) : Fin 5 := ⟨(y 0).val / 384, by
  have : (y 0).val < 1920 := (y 0).isLt
  omega⟩

/-- What one grid point leaves in the output block, from the scale, the packed x and the weight block in scratch. -/
def yblk (s : F .f32) (x1 : Vec F S960x4096 .i32) (wd : Vec F S512x4096 .bf16) : Vec F S1920x512 .bf16 :=
  fun y => ypay s (View.ld x1 (xrect (ypiece y))) (pk wd) (yloc y)

/-- The index of one of the two scales. -/
def sIdx (k : Fin 2) : S2.Idx
  | ⟨0, _⟩ => k

/-- The product of the two tensor scales, as the body forms it. -/
def yscale (x0 : Vec F S2 .f32) : F .f32 := Scalar.mulf (x0 (sIdx 1)) (x0 (sIdx 0))

theorem yblk_emb (s : F .f32) (x1 : Vec F S960x4096 .i32) (wd : Vec F S512x4096 .bf16) (k : Fin 5)
    (inb : ∀ a, ![384 * k.val, 0] a + S384x512.size a ≤ S1920x512.size a) (x : S384x512.Idx) :
    yblk s x1 wd ((Rect.unit (s := S1920x512) ![384 * k.val, 0] S384x512.size inb).emb x) = ypay s (View.ld x1 (xrect k)) (pk wd) x := by
  have h0 : (((Rect.unit (s := S1920x512) ![384 * k.val, 0] S384x512.size inb).emb x) 0).val = 384 * k.val + (x 0).val := by
    rw [Rect.emb_apply]; show 384 * k.val + 1 * (x 0).val = _; omega
  have h1 : (((Rect.unit (s := S1920x512) ![384 * k.val, 0] S384x512.size inb).emb x) 1).val = (x 1).val := by
    rw [Rect.emb_apply]; show 0 + 1 * (x 1).val = _; omega
  have hx : (x 0).val < 384 := (x 0).isLt
  have hp : ypiece ((Rect.unit (s := S1920x512) ![384 * k.val, 0] S384x512.size inb).emb x) = k := by
    apply Fin.ext; show _ / 384 = _; rw [h0]; omega
  have hl : yloc ((Rect.unit (s := S1920x512) ![384 * k.val, 0] S384x512.size inb).emb x) = x := by
    funext a
    match a with
    | ⟨0, _⟩ => apply Fin.ext; show _ % 384 = _; rw [h0]; show _ = (x 0).val; omega
    | ⟨1, _⟩ => exact Fin.ext h1
  unfold yblk; rw [hp, hl]

/-- A list of pieces that each restrict one function. -/
def Agree {S : Shape} {e : EltTy} (G : S.Idx → Elt F e) : List (View.Piece (Elt F) S e) → Prop
  | [] => True
  | p :: L => (∀ x : p.1.shape.Idx, p.2 x = G (p.1.emb x)) ∧ Agree G L

theorem Agree.forall {S : Shape} {e : EltTy} {G : S.Idx → Elt F e} :
    ∀ {L : List (View.Piece (Elt F) S e)}, Agree G L → ∀ p ∈ L, ∀ x : p.1.shape.Idx, p.2 x = G (p.1.emb x)
  | [], _, _, h => absurd h List.not_mem_nil
  | q :: L, ⟨h1, h2⟩, p, h => by
    rcases List.mem_cons.mp h with rfl | h
    · exact h1
    · exact h2.forall p h

/-- Stores that cover a buffer and each restrict `G` leave `G`. -/
theorem read_of_agree {sig : RefSig} {κ : Kind} {sp : Space} {S : Shape} {e : EltTy} (v : View sig κ sp S e) (f : v.ty.Contents (Elt F))
    (G : S.Idx → Elt F e) (L : List (View.Piece (Elt F) S e)) (hc : ∀ y, ∃ p ∈ L, y ∈ p.1.set) (ha : Agree G L) :
    v.read (Elt F) (v.writes (Elt F) f L) = G :=
  funext fun y => View.read_writes_apply_of_pieces v f G L ha.forall y (hc y)

/-- A 64-row tile of a whole buffer, its rows paired, is the tile of the packed block at the place it is stored to. -/
theorem tile_ok {sp : Space} {a : Memref sig .tc sp S512x4096 .bf16} (ha : a.IsWhole) (x2 : Vec F S512x4096 .bf16) (o : Fin 2 → ℕ) (o' : Fin 3 → ℕ)
    (e0 : o 0 = 2 * o' 0) (e1 : o' 1 = 0) (e2 : o 1 = o' 2)
    (inb : ∀ a, o a + S64x256.size a ≤ S512x4096.size a) (inb' : ∀ a, o' a + S32x2x256.size a ≤ S256x2x4096.size a) (x : S32x2x256.Idx) :
    k0_pay2 (a.view.readAt (Elt F) (Rect.unit (s := S512x4096) o S64x256.size inb).toLoadRect (ha.unread x2)) x
      = pk x2 ((Rect.unit (s := S256x2x4096) o' S32x2x256.size inb').emb x) := by
  rw [View.readAt_eq_ld, ha.read_unread]
  have h1 : (x 1).val < 2 := (x 1).isLt
  have hr : S32x2x256.row x = (x 1).val := rfl
  unfold k0_pay2 pk
  simp only [interleaveRows, hr]
  split
  case isTrue h =>
    have hx : (x 1).val = 0 := by omega
    refine (shapeCast_apply (s := S32x256) (t := S32x1x256) _ _ _ (ValueIdx.ix2 (x 0 : Fin 32) (x 2 : Fin 256)) ?_).trans ?_
    · rw [Shape.rowMajor_val_two, Shape.rowMajor_val_three]
      show (x 0).val * 256 + (x 2).val = ((x 0).val * 1 + (x 1).val / 2) * 256 + (x 2).val
      omega
    show x2 _ = x2 _
    congr 1
    funext b
    apply Fin.ext
    match b with
    | ⟨0, _⟩ => show o 0 + 1 * (2 * (x 0).val + 0) = 2 * (o' 0 + 1 * (x 0).val) + (o' 1 + 1 * (x 1).val); omega
    | ⟨1, _⟩ => show o 1 + 1 * (x 2).val = o' 2 + 1 * (x 2).val; omega
  case isFalse h =>
    have hx : (x 1).val = 1 := by omega
    refine (shapeCast_apply (s := S32x256) (t := S32x1x256) _ _ _ (ValueIdx.ix2 (x 0 : Fin 32) (x 2 : Fin 256)) ?_).trans ?_
    · rw [Shape.rowMajor_val_two, Shape.rowMajor_val_three]
      show (x 0).val * 256 + (x 2).val = ((x 0).val * 1 + (x 1).val / 2) * 256 + (x 2).val
      omega
    show x2 _ = x2 _
    congr 1
    funext b
    apply Fin.ext
    match b with
    | ⟨0, _⟩ => show o 0 + 1 * (2 * (x 0).val + 1) = 2 * (o' 0 + 1 * (x 0).val) + (o' 1 + 1 * (x 1).val); omega
    | ⟨1, _⟩ => show o 1 + 1 * (x 2).val = o' 2 + 1 * (x 2).val; omega

/-- Taking the packed rows apart again gives the block back. -/
theorem unpk_pk (w : Vec F S512x4096 .bf16) (i : S512x4096.Idx) :
    interleaveRows S512x4096 (shapeCast S256x4096 (rowsOfParity 0 S256x1x4096 (pk w) bitcasts_S256x2x4096_w16_S256x1x4096_w32) shapeCasts_S256x1x4096_S256x4096)
      (shapeCast S256x4096 (rowsOfParity 1 S256x1x4096 (pk w) bitcasts_S256x2x4096_w16_S256x1x4096_w32) shapeCasts_S256x1x4096_S256x4096)
      bitcasts_S512x4096_w16_S256x4096_w32 i = w i := by
  have hi : (i 0).val < 512 := (i 0).isLt
  have hr : S512x4096.row i = (i 0).val := rfl
  simp only [interleaveRows, hr]
  split
  case isTrue h =>
    refine (shapeCast_apply (s := S256x1x4096) (t := S256x4096) _ _ _ (ValueIdx.ix3 (⟨(i 0).val / 2, by omega⟩ : Fin 256) (0 : Fin 1) (i 1 : Fin 4096)) ?_).trans ?_
    · rw [Shape.rowMajor_val_two, Shape.rowMajor_val_three]
      show ((i 0).val / 2 * 1 + 0) * 4096 + (i 1).val = (i 0).val / 2 * 4096 + (i 1).val
      omega
    show w _ = w _
    congr 1
    funext b
    apply Fin.ext
    match b with
    | ⟨0, _⟩ => show 2 * ((i 0).val / 2) + (2 * 0 + 0) = (i 0).val; omega
    | ⟨1, _⟩ => rfl
  case isFalse h =>
    refine (shapeCast_apply (s := S256x1x4096) (t := S256x4096) _ _ _ (ValueIdx.ix3 (⟨(i 0).val / 2, by omega⟩ : Fin 256) (0 : Fin 1) (i 1 : Fin 4096)) ?_).trans ?_
    · rw [Shape.rowMajor_val_two, Shape.rowMajor_val_three]
      show ((i 0).val / 2 * 1 + 0) * 4096 + (i 1).val = (i 0).val / 2 * 4096 + (i 1).val
      omega
    show w _ = w _
    congr 1
    funext b
    apply Fin.ext
    match b with
    | ⟨0, _⟩ => show 2 * ((i 0).val / 2) + (2 * 0 + 1) = (i 0).val; omega
    | ⟨1, _⟩ => rfl

/-- The body's scale is the product of the two scales it was handed. -/
theorem scale_ok {sp : Space} {a : Memref sig .tc sp S2 .f32} (h : a.IsWhole) (x0 : Vec F S2 .f32)
    (inb1 : ∀ a, ![1] a + S1.size a ≤ S2.size a) (inb0 : ∀ a, ![0] a + S1.size a ≤ S2.size a) {p q} :
    k0_pay565 (a.view.readAt (Elt F) (Rect.unit (s := S2) ![1] S1.size inb1).toLoadRect (h.unread x0) (Shape.Idx.first p))
        (a.view.readAt (Elt F) (Rect.unit (s := S2) ![0] S1.size inb0).toLoadRect (h.unread x0) (Shape.Idx.first q)) = yscale x0 := by
  rw [View.readAt_eq_ld, View.readAt_eq_ld, h.read_unread]
  have e1 : (Rect.unit (s := S2) ![1] S1.size inb1).idx (Shape.Idx.first p) = sIdx 1 := by
    funext a; match a with | ⟨0, _⟩ => rfl
  have e0 : (Rect.unit (s := S2) ![0] S1.size inb0).idx (Shape.Idx.first q) = sIdx 0 := by
    funext a; match a with | ⟨0, _⟩ => rfl
  unfold View.ld
  rw [e1, e0]; rfl

/-- The product piece with its three loads read off the buffers' contents. -/
theorem ypay_ok {sp1 sp2 : Space} {a2 : Memref sig .tc sp1 S960x4096 .i32} (h2 : a2.IsWhole) {a5 : Memref sig .tc sp2 S256x2x4096 .bf16} (h5 : a5.IsWhole)
    {s s' : F .f32} (hs : s = s') (x1 : Vec F S960x4096 .i32) (wd : Vec F S512x4096 .bf16) (k : Fin 5)
    (inb2 : ∀ a, ![192 * k.val, 0] a + S192x4096.size a ≤ S960x4096.size a) (inb5 : ∀ a, ![0, 0, 0] a + S256x2x4096.size a ≤ S256x2x4096.size a)
    (inb : ∀ a, ![384 * k.val, 0] a + S384x512.size a ≤ S1920x512.size a) (x : S384x512.Idx) :
    ypay s (a2.view.readAt (Elt F) (Rect.unit (s := S960x4096) ![192 * k.val, 0] S192x4096.size inb2).toLoadRect (h2.unread x1))
        (a5.view.readAt (Elt F) (Rect.unit (s := S256x2x4096) ![0, 0, 0] S256x2x4096.size inb5).toLoadRect (h5.unread (pk wd))) x
      = yblk s' x1 wd ((Rect.unit (s := S1920x512) ![384 * k.val, 0] S384x512.size inb).emb x) := by
  rw [hs, yblk_emb, View.readAt_eq_ld, View.readAt_eq_ld, h2.read_unread, h5.read_unread,
    View.ld_unit_zero (by funext a; match a with | ⟨0, _⟩ => rfl | ⟨1, _⟩ => rfl | ⟨2, _⟩ => rfl)]

end Cert.KernelIdeal.Gen

end
-- ==== Proof.Main.RunA.lean ====
/-
  The pipelined matmul at the ideal reading: the first grid point, which fills the first scratch with the weight block and multiplies nothing.
-/
module

public import proofs.«01_k».proof.Proof.Main.Blocks

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- The body's triple at the first grid point, which fills the first scratch with the weight block and multiplies nothing. -/
theorem run_A (c : Dev nD) (i : grid0.Coords) (arg1 : Memref sig .tc .smem S2 .f32) (harg1 : arg1.IsWhole) (arg2 : Memref sig .tc .vmem S960x4096 .i32) (harg2 : arg2.IsWhole) (arg3 : Memref sig .tc .vmem S512x4096 .bf16) (harg3 : arg3.IsWhole) (arg4 : Memref sig .tc .vmem S1920x512 .bf16) (harg4 : arg4.IsWhole) (arg5 : Memref sig .tc .vmem S256x2x4096 .bf16) (harg5 : arg5.IsWhole) (arg6 : Memref sig .tc .vmem S256x2x4096 .bf16) (harg6 : arg6.IsWhole) (hc0 : cond0_0 i) (hc1 : ¬cond0_1 i) (hc2 : ¬cond0_2 i) (hc3 : ¬cond0_3 i)
    (x0 : Vec F S2 .f32) (x1 : Vec F S960x4096 .i32) (x2 : Vec F S512x4096 .bf16) (xi : Vec F S1920x512 .bf16) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare xi ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1 ∗ owns (c : Thread nD τ) arg3 fullShare x2 ∗ owns (c : Thread nD τ) arg4 fullShare xi ∗ owns (c : Thread nD τ) arg5 fullShare (pk x2) ∗ (∃ d, owns (c : Thread nD τ) arg6 fullShare d)) -∗ K ⟨⟩))
          ⊢ wp frame (wpE (defs₀ (F := F)) Variants.none c none) E (cc0_main i arg1 harg1 arg2 harg2 arg3 harg3 arg4 harg4 arg5 harg5 arg6 harg6) K := by
    intro E K
    simp only [cc0_main_eq_skeleton]; unfold cc0_main_skel
    simp only [k0_part108_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton]
    unfold owns
    iintro ⟨⟨%f0, %hf0, H0⟩, ⟨%f1, %hf1, H1⟩, ⟨%f2, %hf2, H2⟩, ⟨%f3, %hf3, H3⟩, ⟨%ds5, %fs5, -, HS5⟩, ⟨%ds6, %fs6, -, HS6⟩, Hk⟩
    obtain rfl := harg1.eq_unread hf0; obtain rfl := harg2.eq_unread hf1; obtain rfl := harg3.eq_unread hf2; obtain rfl := harg4.eq_unread hf3
    sl_exec (disch := first | sl_exact hc0 | sl_exact hc1 | sl_exact hc2 | sl_exact hc3)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [HS5]
    · iexists _; isplitr; swap; · iexact HS5
      ipureintro
      sl_unfold_words
      refine read_of_agree _ _ _ _ (View.cover_of_tiledL _ S32x2x256.size (by sl_kernel_rfl)) ?_
      iterate 128 refine And.intro (fun x => tile_ok harg3 x2 _ _ rfl rfl rfl (by decide) (by decide) x) ?_
      trivial
    iexists _, _; isplitr; swap; · iexact HS6
    ipureintro; rfl

end Cert.KernelIdeal.Gen

end
-- ==== Proof.Main.RunB.lean ====
/-
  The pipelined matmul at the ideal reading: an odd grid point before the last, which multiplies with the block in the first scratch while it fills the second.
-/
module

public import proofs.«01_k».proof.Proof.Main.RunA

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- The body's triple at an odd grid point before the last, which multiplies with the block in the first scratch while it fills the second. -/
theorem run_B (c : Dev nD) (i : grid0.Coords) (arg1 : Memref sig .tc .smem S2 .f32) (harg1 : arg1.IsWhole) (arg2 : Memref sig .tc .vmem S960x4096 .i32) (harg2 : arg2.IsWhole) (arg3 : Memref sig .tc .vmem S512x4096 .bf16) (harg3 : arg3.IsWhole) (arg4 : Memref sig .tc .vmem S1920x512 .bf16) (harg4 : arg4.IsWhole) (arg5 : Memref sig .tc .vmem S256x2x4096 .bf16) (harg5 : arg5.IsWhole) (arg6 : Memref sig .tc .vmem S256x2x4096 .bf16) (harg6 : arg6.IsWhole) (hc0 : ¬cond0_0 i) (hc1 : cond0_1 i) (hc2 : ¬cond0_2 i) (hc3 : ¬cond0_3 i)
    (x0 : Vec F S2 .f32) (x1 : Vec F S960x4096 .i32) (x2 : Vec F S512x4096 .bf16) (xs : Vec F S512x4096 .bf16) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ owns (c : Thread nD τ) arg5 fullShare (pk xs) ∗ (∃ d, owns (c : Thread nD τ) arg6 fullShare d)
            ∗ (iprop(owns (c : Thread nD τ) arg1 fullShare x0 ∗ owns (c : Thread nD τ) arg2 fullShare x1 ∗ owns (c : Thread nD τ) arg3 fullShare x2 ∗ owns (c : Thread nD τ) arg4 fullShare (yblk (yscale x0) x1 xs) ∗ owns (c : Thread nD τ) arg5 fullShare (pk xs) ∗ owns (c : Thread nD τ) arg6 fullShare (pk x2)) -∗ K ⟨⟩))
          ⊢ wp frame (wpE (defs₀ (F := F)) Variants.none c none) E (cc0_main i arg1 harg1 arg2 harg2 arg3 harg3 arg4 harg4 arg5 harg5 arg6 harg6) K := by
    intro E K
    simp only [cc0_main_eq_skeleton]; unfold cc0_main_skel
    simp only [k0_part108_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton]
    unfold owns
    iintro ⟨⟨%f0, %hf0, H0⟩, ⟨%f1, %hf1, H1⟩, ⟨%f2, %hf2, H2⟩, ⟨%d3, %f3, -, H3⟩, ⟨%fs5, %hfs5, HS5⟩, ⟨%ds6, %fs6, -, HS6⟩, Hk⟩
    obtain rfl := harg1.eq_unread hf0; obtain rfl := harg2.eq_unread hf1; obtain rfl := harg3.eq_unread hf2; obtain rfl := harg5.eq_unread hfs5
    sl_exec (disch := first | sl_exact hc0 | sl_exact hc1 | sl_exact hc2 | sl_exact hc3)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; swap; · iexact H3
      ipureintro
      sl_unfold_words
      refine read_of_agree _ _ _ _ (View.cover_of_tiledL _ S384x512.size (by sl_kernel_rfl)) ?_
      have hs := scale_ok harg1 x0 inb_S2_S1_1 inb_S2_S1_0 (p := by decide) (q := by decide)
      exact ⟨fun x => ypay_ok harg2 harg5 hs x1 xs 4 inb_S960x4096_S192x4096_768_0 inb_S256x2x4096_S256x2x4096_0_0_0 inb_S1920x512_S384x512_1536_0 x, fun x => ypay_ok harg2 harg5 hs x1 xs 3 inb_S960x4096_S192x4096_576_0 inb_S256x2x4096_S256x2x4096_0_0_0 inb_S1920x512_S384x512_1152_0 x,
        fun x => ypay_ok harg2 harg5 hs x1 xs 2 inb_S960x4096_S192x4096_384_0 inb_S256x2x4096_S256x2x4096_0_0_0 inb_S1920x512_S384x512_768_0 x, fun x => ypay_ok harg2 harg5 hs x1 xs 1 inb_S960x4096_S192x4096_192_0 inb_S256x2x4096_S256x2x4096_0_0_0 inb_S1920x512_S384x512_384_0 x,
        fun x => ypay_ok harg2 harg5 hs x1 xs 0 inb_S960x4096_S192x4096_0_0 inb_S256x2x4096_S256x2x4096_0_0_0 inb_S1920x512_S384x512_0_0 x, trivial⟩
    isplitl [HS5]
    · iexists _; isplitr; · ipureintro; exact harg5.read_unread _
      iexact HS5
    iexists _; isplitr; swap; · iexact HS6
    ipureintro
    sl_unfold_words
    refine read_of_agree _ _ _ _ (View.cover_of_tiledL _ S32x2x256.size (by sl_kernel_rfl)) ?_
    iterate 128 refine And.intro (fun x => tile_ok harg3 x2 _ _ rfl rfl rfl (by decide) (by decide) x) ?_
    trivial

end Cert.KernelIdeal.Gen

end
-- ==== Proof.Main.RunC.lean ====
/-
  The pipelined matmul at the ideal reading: an even grid point between the first and the last, which multiplies with the block in the second scratch while it fills the first.
-/
module

public import proofs.«01_k».proof.Proof.Main.RunB

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- The body's triple at an even grid point between the first and the last, which multiplies with the block in the second scratch while it fills the first. -/
theorem run_C (c : Dev nD) (i : grid0.Coords) (arg1 : Memref sig .tc .smem S2 .f32) (harg1 : arg1.IsWhole) (arg2 : Memref sig .tc .vmem S960x4096 .i32) (harg2 : arg2.IsWhole) (arg3 : Memref sig .tc .vmem S512x4096 .bf16) (harg3 : arg3.IsWhole) (arg4 : Memref sig .tc .vmem S1920x512 .bf16) (harg4 : arg4.IsWhole) (arg5 : Memref sig .tc .vmem S256x2x4096 .bf16) (harg5 : arg5.IsWhole) (arg6 : Memref sig .tc .vmem S256x2x4096 .bf16) (harg6 : arg6.IsWhole) (hc0 : ¬cond0_0 i) (hc1 : ¬cond0_1 i) (hc2 : cond0_2 i) (hc3 : ¬cond0_3 i)
    (x0 : Vec F S2 .f32) (x1 : Vec F S960x4096 .i32) (x2 : Vec F S512x4096 .bf16) (xs : Vec F S512x4096 .bf16) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ owns (c : Thread nD τ) arg6 fullShare (pk xs)
            ∗ (iprop(owns (c : Thread nD τ) arg1 fullShare x0 ∗ owns (c : Thread nD τ) arg2 fullShare x1 ∗ owns (c : Thread nD τ) arg3 fullShare x2 ∗ owns (c : Thread nD τ) arg4 fullShare (yblk (yscale x0) x1 xs) ∗ owns (c : Thread nD τ) arg5 fullShare (pk x2) ∗ owns (c : Thread nD τ) arg6 fullShare (pk xs)) -∗ K ⟨⟩))
          ⊢ wp frame (wpE (defs₀ (F := F)) Variants.none c none) E (cc0_main i arg1 harg1 arg2 harg2 arg3 harg3 arg4 harg4 arg5 harg5 arg6 harg6) K := by
    intro E K
    simp only [cc0_main_eq_skeleton]; unfold cc0_main_skel
    simp only [k0_part108_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton]
    unfold owns
    iintro ⟨⟨%f0, %hf0, H0⟩, ⟨%f1, %hf1, H1⟩, ⟨%f2, %hf2, H2⟩, ⟨%d3, %f3, -, H3⟩, ⟨%ds5, %fs5, -, HS5⟩, ⟨%fs6, %hfs6, HS6⟩, Hk⟩
    obtain rfl := harg1.eq_unread hf0; obtain rfl := harg2.eq_unread hf1; obtain rfl := harg3.eq_unread hf2; obtain rfl := harg6.eq_unread hfs6
    sl_exec (disch := first | sl_exact hc0 | sl_exact hc1 | sl_exact hc2 | sl_exact hc3)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; swap; · iexact H3
      ipureintro
      sl_unfold_words
      refine read_of_agree _ _ _ _ (View.cover_of_tiledL _ S384x512.size (by sl_kernel_rfl)) ?_
      have hs := scale_ok harg1 x0 inb_S2_S1_1 inb_S2_S1_0 (p := by decide) (q := by decide)
      exact ⟨fun x => ypay_ok harg2 harg6 hs x1 xs 4 inb_S960x4096_S192x4096_768_0 inb_S256x2x4096_S256x2x4096_0_0_0 inb_S1920x512_S384x512_1536_0 x, fun x => ypay_ok harg2 harg6 hs x1 xs 3 inb_S960x4096_S192x4096_576_0 inb_S256x2x4096_S256x2x4096_0_0_0 inb_S1920x512_S384x512_1152_0 x,
        fun x => ypay_ok harg2 harg6 hs x1 xs 2 inb_S960x4096_S192x4096_384_0 inb_S256x2x4096_S256x2x4096_0_0_0 inb_S1920x512_S384x512_768_0 x, fun x => ypay_ok harg2 harg6 hs x1 xs 1 inb_S960x4096_S192x4096_192_0 inb_S256x2x4096_S256x2x4096_0_0_0 inb_S1920x512_S384x512_384_0 x,
        fun x => ypay_ok harg2 harg6 hs x1 xs 0 inb_S960x4096_S192x4096_0_0 inb_S256x2x4096_S256x2x4096_0_0_0 inb_S1920x512_S384x512_0_0 x, trivial⟩
    isplitl [HS5]
    · iexists _; isplitr; swap; · iexact HS5
      ipureintro
      sl_unfold_words
      refine read_of_agree _ _ _ _ (View.cover_of_tiledL _ S32x2x256.size (by sl_kernel_rfl)) ?_
      iterate 128 refine And.intro (fun x => tile_ok harg3 x2 _ _ rfl rfl rfl (by decide) (by decide) x) ?_
      trivial
    iexists _; isplitr; · ipureintro; exact harg6.read_unread _
    iexact HS6

end Cert.KernelIdeal.Gen

end
-- ==== Proof.Main.RunD.lean ====
/-
  The pipelined matmul at the ideal reading: the last grid point, which multiplies with the block in the second scratch and fills neither.
-/
module

public import proofs.«01_k».proof.Proof.Main.RunC

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- The body's triple at the last grid point, which multiplies with the block in the second scratch and fills neither. -/
theorem run_D (c : Dev nD) (i : grid0.Coords) (arg1 : Memref sig .tc .smem S2 .f32) (harg1 : arg1.IsWhole) (arg2 : Memref sig .tc .vmem S960x4096 .i32) (harg2 : arg2.IsWhole) (arg3 : Memref sig .tc .vmem S512x4096 .bf16) (harg3 : arg3.IsWhole) (arg4 : Memref sig .tc .vmem S1920x512 .bf16) (harg4 : arg4.IsWhole) (arg5 : Memref sig .tc .vmem S256x2x4096 .bf16) (harg5 : arg5.IsWhole) (arg6 : Memref sig .tc .vmem S256x2x4096 .bf16) (harg6 : arg6.IsWhole) (hc0 : ¬cond0_0 i) (hc1 : ¬cond0_1 i) (hc2 : ¬cond0_2 i) (hc3 : cond0_3 i)
    (x0 : Vec F S2 .f32) (x1 : Vec F S960x4096 .i32) (x2 : Vec F S512x4096 .bf16) (xs : Vec F S512x4096 .bf16) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ owns (c : Thread nD τ) arg6 fullShare (pk xs)
            ∗ (iprop(owns (c : Thread nD τ) arg1 fullShare x0 ∗ owns (c : Thread nD τ) arg2 fullShare x1 ∗ owns (c : Thread nD τ) arg3 fullShare x2 ∗ owns (c : Thread nD τ) arg4 fullShare (yblk (yscale x0) x1 xs) ∗ (∃ d, owns (c : Thread nD τ) arg5 fullShare d) ∗ owns (c : Thread nD τ) arg6 fullShare (pk xs)) -∗ K ⟨⟩))
          ⊢ wp frame (wpE (defs₀ (F := F)) Variants.none c none) E (cc0_main i arg1 harg1 arg2 harg2 arg3 harg3 arg4 harg4 arg5 harg5 arg6 harg6) K := by
    intro E K
    simp only [cc0_main_eq_skeleton]; unfold cc0_main_skel
    simp only [k0_part108_eq_skeleton, k0_part107_eq_skeleton]
    unfold owns
    iintro ⟨⟨%f0, %hf0, H0⟩, ⟨%f1, %hf1, H1⟩, ⟨%f2, %hf2, H2⟩, ⟨%d3, %f3, -, H3⟩, ⟨%ds5, %fs5, -, HS5⟩, ⟨%fs6, %hfs6, HS6⟩, Hk⟩
    obtain rfl := harg1.eq_unread hf0; obtain rfl := harg2.eq_unread hf1; obtain rfl := harg3.eq_unread hf2; obtain rfl := harg6.eq_unread hfs6
    sl_exec (disch := first | sl_exact hc0 | sl_exact hc1 | sl_exact hc2 | sl_exact hc3)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; swap; · iexact H3
      ipureintro
      sl_unfold_words
      refine read_of_agree _ _ _ _ (View.cover_of_tiledL _ S384x512.size (by sl_kernel_rfl)) ?_
      have hs := scale_ok harg1 x0 inb_S2_S1_1 inb_S2_S1_0 (p := by decide) (q := by decide)
      exact ⟨fun x => ypay_ok harg2 harg6 hs x1 xs 4 inb_S960x4096_S192x4096_768_0 inb_S256x2x4096_S256x2x4096_0_0_0 inb_S1920x512_S384x512_1536_0 x, fun x => ypay_ok harg2 harg6 hs x1 xs 3 inb_S960x4096_S192x4096_576_0 inb_S256x2x4096_S256x2x4096_0_0_0 inb_S1920x512_S384x512_1152_0 x,
        fun x => ypay_ok harg2 harg6 hs x1 xs 2 inb_S960x4096_S192x4096_384_0 inb_S256x2x4096_S256x2x4096_0_0_0 inb_S1920x512_S384x512_768_0 x, fun x => ypay_ok harg2 harg6 hs x1 xs 1 inb_S960x4096_S192x4096_192_0 inb_S256x2x4096_S256x2x4096_0_0_0 inb_S1920x512_S384x512_384_0 x,
        fun x => ypay_ok harg2 harg6 hs x1 xs 0 inb_S960x4096_S192x4096_0_0 inb_S256x2x4096_S256x2x4096_0_0_0 inb_S1920x512_S384x512_0_0 x, trivial⟩
    isplitl [HS5]
    · iexists _, _; isplitr; swap; · iexact HS5
      ipureintro; rfl
    iexists _; isplitr; · ipureintro; exact harg6.read_unread _
    iexact HS6

end Cert.KernelIdeal.Gen

end
-- ==== Proof.Main.Body.lean ====
/-
  The pipelined matmul at the ideal reading: the proof data of the pipeline, the body at every grid point, and the run. The
  scratch carries one weight block from each grid point to the next: after point n the first scratch (n even) or the second
  (n odd) holds weight block n. At point n+1 the output block is the product with it.
-/
module

public import proofs.«01_k».proof.Proof.Main.RunD

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The point before `t` (itself at the first). -/
def prevPt (t : Fin cfg0.N) : Fin cfg0.N := ⟨t.val - 1, Nat.lt_of_le_of_lt (Nat.sub_le _ _) t.isLt⟩

/-- What the output block holds after point `t`: the product with the weight block of the point before. -/
def yAt (c : Dev nD) (t : Fin cfg0.N) : Vec F S1920x512 .bf16 :=
  yblk (yscale (iblk m c 0 t)) (iblk m c 1 t) (iblk m c 2 (prevPt t))

/-- The two scratch buffers after point `n`. -/
def scr (c : Dev nD) (n : ℕ) (hn : n < cfg0.N) : sProp 𝕄 :=
  if n = 28 then iprop((∃ d, owns (c : Thread nD τ) scM0_0 fullShare d) ∗ (owns (c : Thread nD τ) scM0_1 fullShare (pk (iblk m c 2 (prevPt ⟨n, hn⟩)))))
  else if n % 2 = 0 then iprop(owns (c : Thread nD τ) scM0_0 fullShare (pk (iblk m c 2 ⟨n, hn⟩)) ∗ (∃ d, owns (c : Thread nD τ) scM0_1 fullShare d))
  else iprop((∃ d, owns (c : Thread nD τ) scM0_0 fullShare d) ∗ owns (c : Thread nD τ) scM0_1 fullShare (pk (iblk m c 2 ⟨n, hn⟩)))

theorem scr_last (c : Dev nD) (n : ℕ) (hn : n < cfg0.N) (h : n = 28) : scr m c n hn
    = iprop((∃ d, owns (c : Thread nD τ) scM0_0 fullShare d) ∗ (owns (c : Thread nD τ) scM0_1 fullShare (pk (iblk m c 2 (prevPt ⟨n, hn⟩))))) := by
  unfold scr; rw [if_pos h]
theorem scr_even (c : Dev nD) (n : ℕ) (hn : n < cfg0.N) (h : n ≠ 28) (h2 : n % 2 = 0) : scr m c n hn
    = iprop(owns (c : Thread nD τ) scM0_0 fullShare (pk (iblk m c 2 ⟨n, hn⟩)) ∗ (∃ d, owns (c : Thread nD τ) scM0_1 fullShare d)) := by
  unfold scr; rw [if_neg h, if_pos h2]
theorem scr_odd (c : Dev nD) (n : ℕ) (hn : n < cfg0.N) (h2 : n % 2 = 1) : scr m c n hn
    = iprop((∃ d, owns (c : Thread nD τ) scM0_0 fullShare d) ∗ owns (c : Thread nD τ) scM0_1 fullShare (pk (iblk m c 2 ⟨n, hn⟩))) := by
  unfold scr; rw [if_neg (by omega), if_neg (by omega)]

/-- The region invariant before position `n`: every scratch at anything before the first point, afterwards the scratch the
    point before filled at its weight block. -/
def PhiS (c : Dev nD) : (n : ℕ) → n ≤ cfg0.N → sProp 𝕄
  | 0, _ => Pipeline.ΦA spec0 c
  | n + 1, hn => iprop(scr m c n hn ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(scr m c n hn ∗ (∃ r, prngReg c r)) := rfl
theorem PhiS_pos (c : Dev nD) (n : ℕ) (h : n ≤ cfg0.N) (hz : n ≠ 0) :
    PhiS m c n h = iprop(scr m c (n - 1) (by omega) ∗ (∃ r, prngReg c r)) := by
  cases n with
  | zero => exact absurd rfl hz
  | succ n => rfl

/-- The proof data of the pipeline. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => yAt m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = yAt m c t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

set_option maxHeartbeats 4800000 in
/-- The body at any point: which of the four cases the point is in, and that case's triple. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl]
  rw [show (dats m 0 c).Φ t.succ = PhiS m c (t.val + 1) t.isLt from rfl, PhiS_succ]
  have hN : t.val < 29 := lt_of_lt_of_eq t.isLt (show cfg0.N = 29 from N_0)
  have i0 := hcond0_0 t
  have i1 := hcond0_1 t
  have i2 := hcond0_2 t
  have i3 := hcond0_3 t
  by_cases hz : t.val = 0
  · have c0 : cond0_0 (grid0.coords t) := i0.mpr (by omega)
    have c1 : ¬cond0_1 (grid0.coords t) := fun h => by have := i1.mp h; omega
    have c2 : ¬cond0_2 (grid0.coords t) := fun h => by have := i2.mp h; omega
    have c3 : ¬cond0_3 (grid0.coords t) := fun h => by have := i3.mp h; omega
    rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [Dat.leavesExact_idle (dats m 0 c) 3 t (idleAt0_3_A t hz) (noFlush0_3_A t hz)]
    rw [PhiS_castSucc m c t, PhiS_zero m c _ _ hz, PhiA0_eq, scr_even m c t.val t.isLt (by omega) (by omega)]
    iintro ⟨⟨⟨HS0, HS1⟩, Hg⟩, Ho, ⟨%d0, H0⟩, ⟨%d1, H1⟩, ⟨%d2, H2⟩, ⟨%d3, H3⟩⟩
    iapply (run_A c (grid0.coords t) _ _ _ _ _ _ _ _ _ _ _ _ c0 c1 c2 c3 (iblk m c 0 t) (iblk m c 1 t) (iblk m c 2 t) _ Set.univ _)
    isplitl [H0]; · iexact H0
    isplitl [H1]; · iexact H1
    isplitl [H2]; · iexact H2
    isplitl [H3]; · iexact H3
    isplitl [HS0]; · iexact HS0
    isplitl [HS1]; · iexact HS1
    iintro ⟨H0, H1, H2, H3, HS0, HS1⟩
    isplitl [HS0 HS1 Hg]
    · isplitl [HS0 HS1]
      · isplitl [HS0]
        · iexact HS0
        iexact HS1
      iexact Hg
    isplitl [Ho]; · iexact Ho
    isplitl [H0]; · iexact H0
    isplitl [H1]; · iexact H1
    isplitl [H2]; · iexact H2
    iexists _; iexact H3
  by_cases ho : t.val % 2 = 1
  · have c0 : ¬cond0_0 (grid0.coords t) := fun h => by have := i0.mp h; omega
    have c1 : cond0_1 (grid0.coords t) := i1.mpr (by omega)
    have c2 : ¬cond0_2 (grid0.coords t) := fun h => by have := i2.mp h; omega
    have c3 : ¬cond0_3 (grid0.coords t) := fun h => by have := i3.mp h; omega
    rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t hz], after0_3]
    rw [PhiS_castSucc m c t, PhiS_pos m c _ _ hz, scr_even m c (t.val - 1) _ (by omega) (by omega), scr_odd m c t.val t.isLt ho]
    iintro ⟨⟨⟨HS0, HS1⟩, Hg⟩, Ho, ⟨%d0, H0⟩, ⟨%d1, H1⟩, ⟨%d2, H2⟩, ⟨%d3, H3⟩⟩
    iapply (run_B c (grid0.coords t) _ _ _ _ _ _ _ _ _ _ _ _ c0 c1 c2 c3 (iblk m c 0 t) (iblk m c 1 t) (iblk m c 2 t) (iblk m c 2 (prevPt t)) Set.univ _)
    isplitl [H0]; · iexact H0
    isplitl [H1]; · iexact H1
    isplitl [H2]; · iexact H2
    isplitl [H3]; · iexists _; iexact H3
    isplitl [HS0]; · iexact HS0
    isplitl [HS1]; · iexact HS1
    iintro ⟨H0, H1, H2, H3, HS0, HS1⟩
    isplitl [HS0 HS1 Hg]
    · isplitl [HS0 HS1]
      · isplitl [HS0]
        · iexists _; iexact HS0
        iexact HS1
      iexact Hg
    isplitl [Ho]; · iexact Ho
    isplitl [H0]; · iexact H0
    isplitl [H1]; · iexact H1
    isplitl [H2]; · iexact H2
    iexact H3
  by_cases hl : t.val = 28
  · have c0 : ¬cond0_0 (grid0.coords t) := fun h => by have := i0.mp h; omega
    have c1 : ¬cond0_1 (grid0.coords t) := fun h => by have := i1.mp h; omega
    have c2 : ¬cond0_2 (grid0.coords t) := fun h => by have := i2.mp h; omega
    have c3 : cond0_3 (grid0.coords t) := i3.mpr (by omega)
    rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t hz], after0_3]
    rw [PhiS_castSucc m c t, PhiS_pos m c _ _ hz, scr_odd m c (t.val - 1) _ (by omega), scr_last m c t.val t.isLt hl]
    iintro ⟨⟨⟨HS0, HS1⟩, Hg⟩, Ho, ⟨%d0, H0⟩, ⟨%d1, H1⟩, ⟨%d2, H2⟩, ⟨%d3, H3⟩⟩
    iapply (run_D c (grid0.coords t) _ _ _ _ _ _ _ _ _ _ _ _ c0 c1 c2 c3 (iblk m c 0 t) (iblk m c 1 t) (iblk m c 2 t) (iblk m c 2 (prevPt t)) Set.univ _)
    isplitl [H0]; · iexact H0
    isplitl [H1]; · iexact H1
    isplitl [H2]; · iexact H2
    isplitl [H3]; · iexists _; iexact H3
    isplitl [HS0]; · iexact HS0
    isplitl [HS1]; · iexact HS1
    iintro ⟨H0, H1, H2, H3, HS0, HS1⟩
    isplitl [HS0 HS1 Hg]
    · isplitl [HS0 HS1]
      · isplitl [HS0]
        · iexact HS0
        iexact HS1
      iexact Hg
    isplitl [Ho]; · iexact Ho
    isplitl [H0]; · iexact H0
    isplitl [H1]; · iexact H1
    isplitl [H2]; · iexact H2
    iexact H3
  · have c0 : ¬cond0_0 (grid0.coords t) := fun h => by have := i0.mp h; omega
    have c1 : ¬cond0_1 (grid0.coords t) := fun h => by have := i1.mp h; omega
    have c2 : cond0_2 (grid0.coords t) := i2.mpr (by omega)
    have c3 : ¬cond0_3 (grid0.coords t) := fun h => by have := i3.mp h; omega
    rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t hz], after0_3]
    rw [PhiS_castSucc m c t, PhiS_pos m c _ _ hz, scr_odd m c (t.val - 1) _ (by omega), scr_even m c t.val t.isLt hl (by omega)]
    iintro ⟨⟨⟨HS0, HS1⟩, Hg⟩, Ho, ⟨%d0, H0⟩, ⟨%d1, H1⟩, ⟨%d2, H2⟩, ⟨%d3, H3⟩⟩
    iapply (run_C c (grid0.coords t) _ _ _ _ _ _ _ _ _ _ _ _ c0 c1 c2 c3 (iblk m c 0 t) (iblk m c 1 t) (iblk m c 2 t) (iblk m c 2 (prevPt t)) Set.univ _)
    isplitl [H0]; · iexact H0
    isplitl [H1]; · iexact H1
    isplitl [H2]; · iexact H2
    isplitl [H3]; · iexists _; iexact H3
    isplitl [HS0]; · iexact HS0
    isplitl [HS1]; · iexact HS1
    iintro ⟨H0, H1, H2, H3, HS0, HS1⟩
    isplitl [HS0 HS1 Hg]
    · isplitl [HS0 HS1]
      · isplitl [HS0]
        · iexact HS0
        iexists _; iexact HS1
      iexact Hg
    isplitl [Ho]; · iexact Ho
    isplitl [H0]; · iexact H0
    isplitl [H1]; · iexact H1
    isplitl [H2]; · iexact H2
    iexact H3

theorem defs₀_row (t : Fin cfg0.N) :
    defs₀ (F := F) .tc cfg0.body (cfg0.bodyArgs t (cfg0.slots t)) = bodyAt0 t := by
  unfold defs₀; rw [Defs.onTc_tc]

/-- The pipeline's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ Pipeline.ΦA spec0 c := by
  have hN : cfg0.N = 29 := N_0
  rw [show (dats m 0 c).Φ (Fin.last cfg0.N) = PhiS m c cfg0.N (Nat.le_refl _) from rfl, PhiS_pos m c _ _ (by omega),
    scr_last m c _ _ (by omega), PhiA0_eq]
  iintro ⟨⟨HS0, HS1⟩, Hg⟩
  isplitl [HS0 HS1]
  · isplitl [HS0]
    · iexact HS0
    iexists _; iexact HS1
  iexact Hg

-- `θ_run_frame_track`'s implicit arguments are found by unifying its conclusion with this one
set_option backward.isDefEq.respectTransparency.types false in
/-- The launch: every array of the pipeline at what the proof data says, and every semaphore counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

/-- The frame: the argument arrays end unchanged and every counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.KernelIdeal.Gen

end
-- ==== Proof.Main.Spec.lean ====
/-
  The pipelined matmul at the ideal reading: the array it ends with, as a function of its three operands.
-/
module

public import proofs.«01_k».proof.Proof.Main.Blocks

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Rows `512 j … 512 j + 511` of the weights. -/
def wblk (A : Vec F S14336x4096 .bf16) (j : Fin 28) : Vec F S512x4096 .bf16 :=
  fun i => A (fun a => match a with
    | ⟨0, _⟩ => (⟨512 * j.val + (i 0).val, by have h0 : (i 0).val < 512 := (i 0).isLt; have := j.isLt; show _ < 14336; omega⟩ : Fin 14336)
    | ⟨1, _⟩ => (i 1 : Fin 4096))

/-- The block column `n` of y lies in, -/
def ycol (i : S1920x14336.Idx) : Fin 28 := ⟨(i 1).val / 512, by have h0 : (i 1).val < 14336 := (i 1).isLt; omega⟩

/-- and the place inside that block. -/
def yin (i : S1920x14336.Idx) : S1920x512.Idx
  | ⟨0, _⟩ => (i 0 : Fin 1920)
  | ⟨1, _⟩ => (⟨(i 1).val % 512, Nat.mod_lt _ (by decide)⟩ : Fin 512)

/-- The result array. -/
def yres (A0 : Vec F S2 .f32) (A1 : Vec F S960x4096 .i32) (A2 : Vec F S14336x4096 .bf16) : Vec F S1920x14336 .bf16 :=
  fun i => yblk (yscale A0) A1 (wblk A2 (ycol i)) (yin i)

end Cert.KernelIdeal.Gen

end
-- ==== Proof.Main.Result.lean ====
/-
  The pipelined matmul at the ideal reading: the result array. Block j of y is written at point j+1 and holds the product of
  x with weight block j; together the blocks are the array.
-/
module

public import proofs.«01_k».proof.Proof.Main.Body
public import proofs.«01_k».proof.Proof.Main.Spec

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev arr0 (c : Dev nD) : Vec F S2 .f32 := m ((c : Thread nD τ).loc main_arg0)
abbrev arr1 (c : Dev nD) : Vec F S960x4096 .i32 := m ((c : Thread nD τ).loc main_arg1)
abbrev arr2 (c : Dev nD) : Vec F S14336x4096 .bf16 := m ((c : Thread nD τ).loc main_arg2)

theorem index0 : ∀ t : Fin cfg0.N, win0_0.index t 0 = 0 := by decide +kernel
theorem index1 : ∀ t : Fin cfg0.N, win0_1.index t 0 = 0 ∧ win0_1.index t 1 = 0 := by decide +kernel
theorem index2 : ∀ t : Fin cfg0.N, win0_2.index t 0 = min t.val 27 ∧ win0_2.index t 1 = 0 := by decide +kernel
theorem index3 : ∀ t : Fin cfg0.N, win0_3.index t 0 = 0 ∧ win0_3.index t 1 = t.val - 1 := by decide +kernel
theorem flush3 : ∀ t : Fin cfg0.N, (cfg0.win 3).flush t = true ↔ t.val ≠ 0 := by decide +kernel

theorem iblk0_eq (c : Dev nD) (t : Fin cfg0.N) : (iblk m c 0 t : Vec F S2 .f32) = arr0 m c := by
  have hi := index0 t
  funext j
  unfold iblk
  rw [View.read_apply]
  show V m c main_arg0 _ = m (c.tc.loc main_arg0) _
  unfold V
  congr 1
  funext a
  apply Fin.ext
  match a with
  | ⟨0, _⟩ => show win0_0.index t 0 * 2 + 1 * (j 0).val = (j 0).val; rw [hi]; omega

theorem iblk1_eq (c : Dev nD) (t : Fin cfg0.N) : (iblk m c 1 t : Vec F S960x4096 .i32) = arr1 m c := by
  have hi := index1 t
  funext j
  unfold iblk
  rw [View.read_apply]
  show V m c main_arg1 _ = m (c.tc.loc main_arg1) _
  unfold V
  congr 1
  funext a
  apply Fin.ext
  match a with
  | ⟨0, _⟩ => show win0_1.index t 0 * 960 + 1 * (j 0).val = (j 0).val; rw [hi.1]; omega
  | ⟨1, _⟩ => show win0_1.index t 1 * 4096 + 1 * (j 1).val = (j 1).val; rw [hi.2]; omega

theorem iblk2_eq (c : Dev nD) (t : Fin cfg0.N) (b : Fin 28) (hb : b.val = t.val) : (iblk m c 2 t : Vec F S512x4096 .bf16) = wblk (arr2 m c) b := by
  have hi := index2 t
  have hbl := b.isLt
  funext j
  unfold iblk wblk
  rw [View.read_apply]
  show V m c main_arg2 _ = m (c.tc.loc main_arg2) _
  unfold V
  congr 1
  funext a
  apply Fin.ext
  match a with
  | ⟨0, _⟩ => show win0_2.index t 0 * 512 + 1 * (j 0).val = 512 * b.val + (j 0).val; rw [hi.1]; omega
  | ⟨1, _⟩ => show win0_2.index t 1 * 4096 + 1 * (j 1).val = (j 1).val; rw [hi.2]; omega

/-- The result array of core `c`. -/
abbrev result (c : Dev nD) : Buf (Elt F) ((c : Thread nD τ).loc main_v0) := yres (arr0 m c) (arr1 m c) (arr2 m c)

/-- Each write-back writes the result's block. -/
theorem flushed_eq (c : Dev nD) (t : Fin cfg0.N) (hf : (cfg0.win 3).flush t = true) :
    (dats m 0 c).flushed 3 t = ((cfg0.win 3).blk t).view.read (Elt F) (result m c) := by
  have hN : t.val < 29 := lt_of_lt_of_eq t.isLt (show cfg0.N = 29 from N_0)
  have hz := (flush3 t).mp hf
  have hi := index3 t
  show (cfg0.win 3).cut (grid0.coords t) ((dats m 0 c).after 3 t) = _
  rw [after0_3]
  unfold yAt
  rw [iblk0_eq, iblk1_eq, iblk2_eq m c (prevPt t) ⟨t.val - 1, by omega⟩ rfl]
  funext j
  rw [View.read_apply]
  have hj0 : (j 0).val < 1920 := (j 0).isLt
  have hj1 : (j 1).val < 512 := (j 1).isLt
  show yblk (yscale (arr0 m c)) (arr1 m c) (wblk (arr2 m c) ⟨t.val - 1, by omega⟩) j
    = yres (arr0 m c) (arr1 m c) (arr2 m c) (((cfg0.win 3).blk t).view.emb j)
  have e0 : ((((cfg0.win 3).blk t).view.emb j) 0).val = (j 0).val := by
    show win0_3.index t 0 * 1920 + 1 * (j 0).val = (j 0).val; rw [hi.1]; omega
  have e1 : ((((cfg0.win 3).blk t).view.emb j) 1).val = (t.val - 1) * 512 + (j 1).val := by
    show win0_3.index t 1 * 512 + 1 * (j 1).val = _; rw [hi.2]; omega
  unfold yres
  have hc : ycol (((cfg0.win 3).blk t).view.emb j) = ⟨t.val - 1, by omega⟩ := by
    apply Fin.ext; show ((((cfg0.win 3).blk t).view.emb j) 1).val / 512 = t.val - 1; rw [e1]; omega
  have hy : yin (((cfg0.win 3).blk t).view.emb j) = j := by
    funext a
    match a with
    | ⟨0, _⟩ => exact Fin.ext e0
    | ⟨1, _⟩ => apply Fin.ext; show ((((cfg0.win 3).blk t).view.emb j) 1).val % 512 = (j 1).val; rw [e1]; omega
  rw [hc, hy]

/-- The blocks cover the array, so it ends at the result. -/
theorem final_y (c : Dev nD) : (dats m 0 c).arrAt 3 cfg0.N = result m c :=
  (dats m 0 c).arrAt_eq_of_cover 3 (result m c) (flushed_eq m c) fun i => by
    have h0 : (i 0 : Nat) < 1920 := (i 0).isLt
    have h1 : (i 1 : Nat) < 14336 := (i 1).isLt
    have hN : cfg0.N = 29 := N_0
    obtain ⟨t, ht⟩ : ∃ t : Fin cfg0.N, t.val = (i 1 : Nat) / 512 + 1 := ⟨⟨(i 1 : Nat) / 512 + 1, by omega⟩, rfl⟩
    refine ⟨t, (flush3 t).mpr (by omega), ?_⟩
    have hi := index3 t
    show i ∈ ((View.whole main_v0).slice (win0_3.rect t)).set
    rw [View.set_slice_whole, Rect.mem_set_unit]
    intro a
    match a with
    | ⟨0, _⟩ => show win0_3.index t 0 * 1920 ≤ (i 0 : Nat) ∧ (i 0 : Nat) < win0_3.index t 0 * 1920 + 1920
                rw [hi.1]; omega
    | ⟨1, _⟩ => show win0_3.index t 1 * 512 ≤ (i 1 : Nat) ∧ (i 1 : Nat) < win0_3.index t 1 * 512 + 512
                rw [hi.2]; omega

/-- The run, read: the result array at the result, the arguments unchanged. -/
theorem run : θ_run defs (onTc (τ := τ) (main (F := F))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨((h c).1 3).trans (final_y m c), ((h c).1 0).trans ((dats m 0 c).arrAt_in 0 rfl _),
    ((h c).1 1).trans ((dats m 0 c).arrAt_in 1 rfl _), ((h c).1 2).trans ((dats m 0 c).arrAt_in 2 rfl _)⟩)
    (run_main m ρ)

end Cert.KernelIdeal.Gen

end
-- ==== Proof.Main.Tie.lean ====
/-
  The pipelined matmul at the ideal reading, against the reference's terms: both multiply row r of x, whose two packed rows
  2q and 2q+1 are the low and the high halves of the words of row q, with row n of the weights, and scale the sum by the
  product of the two tensor scales.
-/
module

public import proofs.«01_k».proof.Proof.Main.Spec
public import proofs.«01_k».proof.Proof.Gen.ReferenceIdeal
public import Idealize.ShloMosaic.Lib.MatmulPlain
public import Idealize.ShloMosaic.Lib.BitcastPair
public import Idealize.ShloMosaic.Lib.BitcastConvert
public import Idealize.ShloMosaic.Lib.Pipeline.Value
public import Idealize.ShloMosaic.Lib.Pointwise.Elementwise
public import Idealize.ShloMosaic.Lib.IdealHost

@[expose] public section

set_option maxRecDepth 16384

noncomputable section

namespace Cert.Tie

open Idealize.ShloMosaic Idealize.ShloMosaic.TcCoe Idealize.ShloMosaic.ValueIdx
open scoped BigOperators

abbrev Packed := (⟨2, ![960, 4096]⟩ : Shape).Idx → BitVec 32
abbrev Weights := (⟨2, ![14336, 4096]⟩ : Shape).Idx → EReal
abbrev Scales := (⟨1, ![2]⟩ : Shape).Idx → EReal

/-- Element (r, k) of x: a half of the packed word (r / 2, k). -/
def xel (A : Packed) (r : Fin 1920) (k : Fin 4096) : EReal :=
  (FloatOps.ofBits (F := Ideal) .bf16
    ((A (ix2 (⟨r.val / 2, by omega⟩ : Fin 960) k)).extractLsb' (16 * (r.val % 2)) 16 : BitVec FTy.bf16.bits) : Ideal .bf16)

/-- The sum over the 4096 places. -/
def dotxw (A : Packed) (W : Weights) (r : Fin 1920) (n : Fin 14336) : EReal := ∑ k : Fin 4096, xel A r k * W (ix2 n k)

/-- The dequantised rows the kernel forms from 192 packed rows. -/
theorem kernel_x (A : Packed) (p : Fin 5) (r : Fin 384) (k : Fin 4096) (xr : Vec Ideal Cert.KernelIdeal.S192x4096 .i32)
    (hx : xr = View.ld (A : Vec Ideal Cert.KernelIdeal.S960x4096 .i32) (Cert.KernelIdeal.Gen.xrect p)) :
    (bitcastToFloat (F := Ideal) .bf16 (bitcast Cert.KernelIdeal.S384x4096 16 xr
      Cert.KernelIdeal.Facts₀.bitcasts_S192x4096_w32_S384x4096_w16)) (ix2 r k)
      = xel A ⟨384 * p.val + r.val, by omega⟩ k := by
  subst hx
  have hr := r.isLt
  have hrow : Cert.KernelIdeal.S384x4096.row (ix2 r k) = r.val := rfl
  have hm : (384 * p.val + r.val) % 2 = r.val % 2 := by omega
  have hd : 192 * p.val + r.val / 2 = (384 * p.val + r.val) / 2 := by omega
  rw [bitcastToFloat_apply, bitcast_32_16]
  unfold xel
  refine congrArg (FloatOps.ofBits (F := Ideal) .bf16) ?_
  simp only [hrow, hm]
  refine congrArg (BitVec.extractLsb' (16 * (r.val % 2)) 16) ?_
  show A _ = A _
  congr 1
  funext a
  apply Fin.ext
  match a with
  | ⟨0, _⟩ => show 192 * p.val + 1 * (r.val / 2) = (384 * p.val + r.val) / 2; omega
  | ⟨1, _⟩ => show 0 + 1 * k.val = k.val; omega

/-- The two matrix products are the transposed-rhs product. -/
theorem kernel_dims : Cert.KernelIdeal.dot_S384x4096_S512x4096_S384x512_1_1_0_0_n_n = DotDims.transposedRhs 384 4096 512 := rfl
theorem ref_dims : Cert.ReferenceIdeal.dot_S1920x4096_S14336x4096_S1920x14336_1_1_0_0_n_n = DotDims.transposedRhs 1920 4096 14336 := rfl

/-- What the kernel leaves at (r, n). -/
theorem kernel_val (A0 : Scales) (A1 : Packed) (A2 : Weights) (r : Fin 1920) (n : Fin 14336) :
    Cert.KernelIdeal.Gen.yres (F := Ideal) A0 A1 A2 (ix2 r n)
      = dotxw A1 A2 r n * (A0 (ix1 (1 : Fin 2)) * A0 (ix1 (0 : Fin 2))) := by
  have hr := r.isLt
  have hn := n.isLt
  have h1 : Cert.KernelIdeal.Gen.sIdx 1 = ix1 (1 : Fin 2) := by funext a; match a with | ⟨0, _⟩ => rfl
  have h0 : Cert.KernelIdeal.Gen.sIdx 0 = ix1 (0 : Fin 2) := by funext a; match a with | ⟨0, _⟩ => rfl
  have hl : Cert.KernelIdeal.Gen.yloc (Cert.KernelIdeal.Gen.yin (ix2 r n))
      = ix2 (⟨r.val % 384, by omega⟩ : Fin 384) (⟨n.val % 512, by omega⟩ : Fin 512) := by
    funext a
    match a with
    | ⟨0, _⟩ => rfl
    | ⟨1, _⟩ => rfl
  have hp : Cert.KernelIdeal.Gen.ypiece (Cert.KernelIdeal.Gen.yin (ix2 r n)) = (⟨r.val / 384, by omega⟩ : Fin 5) := rfl
  unfold Cert.KernelIdeal.Gen.yres Cert.KernelIdeal.Gen.yblk Cert.KernelIdeal.Gen.ypay
  rw [hl, hp]
  have key : ∀ (xr : Vec Ideal Cert.KernelIdeal.S192x4096 .i32) (wd : Vec Ideal Cert.KernelIdeal.S512x4096 .bf16) (s : Ideal .f32)
      (i : Fin 384) (j : Fin 512),
      Cert.KernelIdeal.Gen.k0_pay3 (F := Ideal) s xr (Cert.KernelIdeal.Gen.pk wd) (ix2 i j)
        = (∑ k : Fin 4096, (bitcastToFloat (F := Ideal) .bf16 (bitcast Cert.KernelIdeal.S384x4096 16 xr
            Cert.KernelIdeal.Facts₀.bitcasts_S192x4096_w32_S384x4096_w16)) (ix2 i k) * (wd (ix2 j k) : EReal)) * (s : EReal) := by
    intro xr wd s i j
    have e := Ideal.matmul_transposedRhs_apply (M := 384) (K := 4096) (N := 512) (φ₁ := .bf16) (φ₂ := .bf16) none (bitcastToFloat (F := Ideal) .bf16
      (bitcast Cert.KernelIdeal.S384x4096 16 xr Cert.KernelIdeal.Facts₀.bitcasts_S192x4096_w32_S384x4096_w16)) wd
      (constant (F := Ideal) Cert.KernelIdeal.S384x512 .f32 0x00000000#32) i j
    have z : (constant (F := Ideal) Cert.KernelIdeal.S384x512 .f32 0x00000000#32) (ix2 i j) = (0 : EReal) := Ideal.ofBits_zero_f32
    rw [z, zero_add] at e
    have u : (interleaveRows Cert.KernelIdeal.S512x4096
        (shapeCast Cert.KernelIdeal.S256x4096 (rowsOfParity 0 Cert.KernelIdeal.S256x1x4096 (Cert.KernelIdeal.Gen.pk wd)
          Cert.KernelIdeal.Facts₀.bitcasts_S256x2x4096_w16_S256x1x4096_w32) Cert.KernelIdeal.Facts₀.shapeCasts_S256x1x4096_S256x4096)
        (shapeCast Cert.KernelIdeal.S256x4096 (rowsOfParity 1 Cert.KernelIdeal.S256x1x4096 (Cert.KernelIdeal.Gen.pk wd)
          Cert.KernelIdeal.Facts₀.bitcasts_S256x2x4096_w16_S256x1x4096_w32) Cert.KernelIdeal.Facts₀.shapeCasts_S256x1x4096_S256x4096)
        Cert.KernelIdeal.Facts₀.bitcasts_S512x4096_w16_S256x4096_w32) = wd := funext (Cert.KernelIdeal.Gen.unpk_pk wd)
    unfold Cert.KernelIdeal.Gen.k0_pay3
    rw [u]
    exact congrArg (fun q : EReal => q * (s : EReal)) e
  rw [key]
  show _ * (A0 (Cert.KernelIdeal.Gen.sIdx 1) * A0 (Cert.KernelIdeal.Gen.sIdx 0) : EReal) = _
  rw [h1, h0]
  congr 1
  refine Finset.sum_congr rfl fun k _ => ?_
  rw [kernel_x A1 (⟨r.val / 384, by omega⟩ : Fin 5) (⟨r.val % 384, by omega⟩ : Fin 384) k _ rfl]
  congr 1
  · congr 1
    apply Fin.ext
    show 384 * (r.val / 384) + r.val % 384 = r.val
    omega
  · show A2 _ = A2 _
    congr 1
    funext a
    apply Fin.ext
    match a with
    | ⟨0, _⟩ => show 512 * (n.val / 512) + n.val % 512 = n.val; omega
    | ⟨1, _⟩ => rfl

section
open Cert.ReferenceIdeal Cert.ReferenceIdeal.Facts₀

/-- The rows the reference unpacks. -/
def refx (A1 : IVec S960x4096 32) : FVec Ideal S1920x4096 .bf16 :=
  shapeCast S1920x4096 (transpose S960x2x4096 [0, 2, 1] (bitcastToFloat (F := Ideal) .bf16
    (Host.bitcastConvertNarrow S960x4096x2 16 A1 splits_S960x4096_w32_S960x4096x2_w16)) transposes_S960x4096x2_S960x2x4096_0_2_1)
    shapeCasts_S960x2x4096_S1920x4096

/-- The reference's operations on the three operands, in its order. -/
def refv (A0 : FVec Ideal S2 .f32) (A1 : IVec S960x4096 32) (A2 : FVec Ideal S14336x4096 .bf16) : FVec Ideal S1920x14336 .bf16 :=
  truncf .bf16 (mulf (Host.dotGeneral dot_S1920x4096_S14336x4096_S1920x14336_1_1_0_0_n_n none (refx A1) A2)
    (broadcastInDim S1920x14336 ![] bcast_S_S1920x14336
      (mulf (shapeCast S_ (extractStridedSlice S1 ![1] A0 slices_S2_S1_1) shapeCasts_S1_S_)
        (shapeCast S_ (extractStridedSlice S1 ![0] A0 slices_S2_S1_0) shapeCasts_S1_S_)))) bitsLt_bf16_f32

theorem refx_apply (A : Packed) (r : Fin 1920) (k : Fin 4096) : refx A (ix2 r k) = xel A r k := by
  have hr := r.isLt
  unfold refx
  rw [shapeCast_apply _ _ _ (ix3 (⟨r.val / 2, by omega⟩ : Fin 960) (⟨r.val % 2, by omega⟩ : Fin 2) k) (by
      rw [Shape.rowMajor_val_three, Shape.rowMajor_val_two]
      show ((r.val / 2) * 2 + r.val % 2) * 4096 + k.val = r.val * 4096 + k.val
      omega)]
  rw [transpose_apply _ _ _ _ (ix3 (⟨r.val / 2, by omega⟩ : Fin 960) k (⟨r.val % 2, by omega⟩ : Fin 2))
    (by intro b; fin_cases b <;> rfl)]
  rw [bitcastToFloat_apply, Host.bitcastConvertNarrow_apply]
  unfold xel
  congr 1
  show BitVec.extractLsb' (r.val % 2 * 16) 16 _ = _
  rw [Nat.mul_comm]
  congr 1
  show A _ = A _
  congr 1
  funext a
  apply Fin.ext
  match a with
  | ⟨0, _⟩ => rfl
  | ⟨1, _⟩ => rfl

theorem ref_val (A0 : Scales) (A1 : Packed) (A2 : Weights) (r : Fin 1920) (n : Fin 14336) :
    refv A0 A1 A2 (ix2 r n) = dotxw A1 A2 r n * (A0 (ix1 (1 : Fin 2)) * A0 (ix1 (0 : Fin 2))) := by
  have e := Ideal.matmul_transposedRhs_apply (M := 1920) (K := 4096) (N := 14336) (φ₁ := .bf16) (φ₂ := .bf16) none (refx A1) A2
    (fun _ => (0 : EReal)) r n
  rw [zero_add] at e
  have e' : (Host.dotGeneral (F := Ideal) (φ₁ := .bf16) (φ₂ := .bf16) dot_S1920x4096_S14336x4096_S1920x14336_1_1_0_0_n_n none (refx A1) A2) (ix2 r n) = dotxw A1 A2 r n := by
    refine Eq.trans ?_ (e.trans (Finset.sum_congr rfl fun k _ => by rw [refx_apply]))
    rfl
  have s1 : (shapeCast S_ (extractStridedSlice S1 ![1] A0 slices_S2_S1_1) shapeCasts_S1_S_) = fun _ => A0 (ix1 (1 : Fin 2)) := by
    funext q
    unfold shapeCast extractStridedSlice
    congr 1
    funext a
    match a with
    | ⟨0, _⟩ =>
      apply Fin.ext
      have h : ∀ z : S1.Idx, (z 0).val = 0 := fun z => by have hz : (z 0).val < 1 := (z 0).isLt; omega
      exact congrArg (1 + ·) (h _)
  have s0 : (shapeCast S_ (extractStridedSlice S1 ![0] A0 slices_S2_S1_0) shapeCasts_S1_S_) = fun _ => A0 (ix1 (0 : Fin 2)) := by
    funext q
    unfold shapeCast extractStridedSlice
    congr 1
    funext a
    match a with
    | ⟨0, _⟩ =>
      apply Fin.ext
      have h : ∀ z : S1.Idx, (z 0).val = 0 := fun z => by have hz : (z 0).val < 1 := (z 0).isLt; omega
      exact congrArg (0 + ·) (h _)
  unfold refv
  rw [s1, s0]
  exact congrArg (fun q : EReal => q * (A0 (ix1 (1 : Fin 2)) * A0 (ix1 (0 : Fin 2)))) e'

/-- The kernel's array is the reference's. -/
theorem tie (A0 : Scales) (A1 : Packed) (A2 : Weights) :
    (Cert.KernelIdeal.Gen.yres (F := Ideal) A0 A1 A2 : (⟨2, ![1920, 14336]⟩ : Shape).Idx → EReal) = refv A0 A1 A2 := by
  funext i
  have h : ∀ (r : Fin 1920) (n : Fin 14336), (Cert.KernelIdeal.Gen.yres (F := Ideal) A0 A1 A2 : (⟨2, ![1920, 14336]⟩ : Shape).Idx → EReal) (ix2 r n)
      = refv A0 A1 A2 (ix2 r n) := fun r n => (kernel_val A0 A1 A2 r n).trans (ref_val A0 A1 A2 r n).symm
  rw [eq_ix2 i]
  exact h (i 0) (i 1)

end

end Cert.Tie

end
-- ==== Proof.Main.Reference.lean ====
/-
  The reference's run: host operations only, each buffer's final contents computed from the launch contents.
-/
module

public import proofs.«01_k».proof.Defs
public import proofs.«01_k».proof.Proof.Main.Tie
public import Idealize.ShloMosaic.Lib.Claim
public import Idealize.ShloMosaic.Lib.Quiescent
public import Idealize.ShloMosaic.Adequacy
public import Idealize.ShloMosaic.Init

@[expose] public section

set_option maxRecDepth 16384

noncomputable section

namespace Cert.Tie

open Idealize.ShloMosaic Idealize.ShloMosaic.TcCoe Idealize.SL.Sem

theorem reference_quiescent : Cert.quiescent_ReferenceIdeal := by
  intro m g _
  have h : θ_run (Cert.ReferenceIdeal.defs (F := Ideal)) (onTc (τ := Cert.ReferenceIdeal.τ) (Cert.ReferenceIdeal.main (F := Ideal))) ⟨m, fun _ => 0, g⟩
      (fun r => ∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)) := by
    hlo_run
  exact θ_run_mono h fun r hr => ⟨hr, sem_eq_zero_of_no_sems rfl _⟩

/-- The reference ends with `refv` of its operands. -/
theorem reference_run (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩
      (fun r => ∀ c : Dev Cert.ReferenceIdeal.nD,
        r.2.mem ((c.tc : Thread Cert.ReferenceIdeal.nD Cert.ReferenceIdeal.τ).loc Cert.ReferenceIdeal.main_v11)
            = refv (m ((c.tc : Thread Cert.ReferenceIdeal.nD Cert.ReferenceIdeal.τ).loc Cert.ReferenceIdeal.main_arg0))
                (m ((c.tc : Thread Cert.ReferenceIdeal.nD Cert.ReferenceIdeal.τ).loc Cert.ReferenceIdeal.main_arg1))
                (m ((c.tc : Thread Cert.ReferenceIdeal.nD Cert.ReferenceIdeal.τ).loc Cert.ReferenceIdeal.main_arg2))
          ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)) := by
  hlo_run
  rfl

end Cert.Tie

end
-- ==== Proof.Main.Claims.lean ====
/-
  The claims about the pipelined matmul at the ideal reading: its frame, and that its result is the reference's.
-/
module

public import proofs.«01_k».proof.Proof.Main.Result
public import proofs.«01_k».proof.Proof.Main.Reference

@[expose] public section

set_option maxRecDepth 16384

noncomputable section

namespace Cert.Tie

open Idealize.ShloMosaic Idealize.ShloMosaic.TcCoe Idealize.SL.Sem

theorem kernel_quiescent : Cert.quiescent_KernelIdeal := fun m g _ => Cert.KernelIdeal.Gen.frame m g

theorem kernel_algebraic : Cert.algebraic_KernelIdeal_ReferenceIdeal := by
  intro m g m' g' _ hagree
  refine ⟨fun c => Cert.KernelIdeal.Gen.result (F := Ideal) m c, Cert.KernelIdeal.Gen.run m g, ?_⟩
  refine θ_run_mono (reference_run m' g') fun r hr c => ⟨(hr c).1.trans ?_, (hr c).2⟩
  obtain ⟨h0, h1, h2⟩ := hagree c
  rw [h0, h1, h2]
  exact (tie _ _ _).symm

end Cert.Tie

end
-- ==== Proof.Amax.Planes.lean ====
/-
  The tensor scales at the ideal reading, part 1: what each kind of grid point leaves in the two planes of the running maxima
  (plane 0: x's, plane 1: the weights') and in the result.
-/
module

public import proofs.«01_k».proof.Proof.Gen.AmaxIdeal.Frame
public import Idealize.ShloMosaic.Lib.Pipeline.Value
public import Idealize.ShloMosaic.Lib.WritesUnit

@[expose] public section

set_option maxRecDepth 16384

noncomputable section

namespace Cert.AmaxIdeal.Gen

open Idealize.ShloMosaic Idealize.ShloMosaic.TcCoe Idealize.ShloMosaic.Tactic
open Idealize.SL Idealize.SL.RA Idealize.SL.BI
open scoped Idealize.SL.BI
open Idealize.ShloMosaic.Pipeline (Dat Cfg Window)

variable {F : FTy → Type} [FloatOps F]

/-- A plane's index under an index of the two planes. -/
def inPlane (y : S2x16x4096.Idx) : S1x16x4096.Idx
  | ⟨0, _⟩ => (⟨0, Nat.one_pos⟩ : Fin 1)
  | ⟨1, _⟩ => (y 1 : Fin 16)
  | ⟨2, _⟩ => (y 2 : Fin 4096)

/-- Two planes, one over the other. -/
def two (P Q : Vec F S1x16x4096 .bf16) : Vec F S2x16x4096 .bf16 := fun y => if (y 0).val = 0 then P (inPlane y) else Q (inPlane y)

theorem two_read0 (P Q : Vec F S1x16x4096 .bf16) (inb : ∀ a, ![0, 0, 0] a + S1x16x4096.size a ≤ S2x16x4096.size a) :
    View.ld (two P Q) (Rect.unit (s := S2x16x4096) ![0, 0, 0] S1x16x4096.size inb) = P := by
  funext j
  have hj : (j 0).val < 1 := (j 0).isLt
  have h0 : ((Rect.unit (s := S2x16x4096) ![0, 0, 0] S1x16x4096.size inb).idx j 0).val = 0 := by show 0 + 1 * (j 0).val = 0; omega
  show two P Q _ = _
  unfold two
  rw [if_pos h0]
  congr 1
  funext a
  apply Fin.ext
  match a with
  | ⟨0, _⟩ => show 0 = (j 0).val; omega
  | ⟨1, _⟩ => show 0 + 1 * (j 1).val = (j 1).val; omega
  | ⟨2, _⟩ => show 0 + 1 * (j 2).val = (j 2).val; omega

theorem two_read1 (P Q : Vec F S1x16x4096 .bf16) (inb : ∀ a, ![1, 0, 0] a + S1x16x4096.size a ≤ S2x16x4096.size a) :
    View.ld (two P Q) (Rect.unit (s := S2x16x4096) ![1, 0, 0] S1x16x4096.size inb) = Q := by
  funext j
  have hj : (j 0).val < 1 := (j 0).isLt
  have h0 : ((Rect.unit (s := S2x16x4096) ![1, 0, 0] S1x16x4096.size inb).idx j 0).val = 1 := by show 1 + 1 * (j 0).val = 1; omega
  show two P Q _ = _
  unfold two
  rw [if_neg (by rw [h0]; decide)]
  congr 1
  funext a
  apply Fin.ext
  match a with
  | ⟨0, _⟩ => show 0 = (j 0).val; omega
  | ⟨1, _⟩ => show 0 + 1 * (j 1).val = (j 1).val; omega
  | ⟨2, _⟩ => show 0 + 1 * (j 2).val = (j 2).val; omega

section Write
variable {sig : RefSig} {κ : Kind} {sp : Space} (v : View sig κ sp S2x16x4096 .bf16) (f : v.ty.Contents (Elt F))

/-- A store of plane 1 leaves that plane, and below it what was there. -/
theorem write1 (inb : ∀ a, ![1, 0, 0] a + S1x16x4096.size a ≤ S2x16x4096.size a) (w : Vec F S1x16x4096 .bf16)
    (L : List (View.Piece (Elt F) S2x16x4096 .bf16)) (y : S2x16x4096.Idx) :
    v.read (Elt F) (v.writes (Elt F) f ((⟨Rect.unit (s := S2x16x4096) ![1, 0, 0] S1x16x4096.size inb, w⟩ : View.Piece (Elt F) S2x16x4096 .bf16) :: L)) y
      = if (y 0).val = 0 then v.read (Elt F) (v.writes (Elt F) f L) y else w (inPlane y) := by
  have hy : (y 0).val < 2 := (y 0).isLt
  split
  · exact View.read_writes_cons_unit_of_not_mem v f inb w L y rfl (0 : Fin 3) (Or.inl (by show (y 0).val < 1; omega))
  · exact View.read_writes_cons_unit_of_mem v f inb w L y (inPlane y) rfl (fun a => by
      match a with
      | ⟨0, _⟩ => show (y 0).val = 1 + 0; omega
      | ⟨1, _⟩ => show (y 1).val = 0 + (y 1).val; omega
      | ⟨2, _⟩ => show (y 2).val = 0 + (y 2).val; omega)

theorem write0 (inb : ∀ a, ![0, 0, 0] a + S1x16x4096.size a ≤ S2x16x4096.size a) (w : Vec F S1x16x4096 .bf16)
    (L : List (View.Piece (Elt F) S2x16x4096 .bf16)) (y : S2x16x4096.Idx) (hy : (y 0).val = 0) :
    v.read (Elt F) (v.writes (Elt F) f ((⟨Rect.unit (s := S2x16x4096) ![0, 0, 0] S1x16x4096.size inb, w⟩ : View.Piece (Elt F) S2x16x4096 .bf16) :: L)) y
      = w (inPlane y) :=
  View.read_writes_cons_unit_of_mem v f inb w L y (inPlane y) rfl (fun a => by
      match a with
      | ⟨0, _⟩ => show (y 0).val = 0 + 0; omega
      | ⟨1, _⟩ => show (y 1).val = 0 + (y 1).val; omega
      | ⟨2, _⟩ => show (y 2).val = 0 + (y 2).val; omega)

end Write

theorem hz2 : (![0, 0] : Fin 2 → Nat) = fun _ => 0 := funext fun a => by fin_cases a <;> rfl

variable (c : Dev nD) (i : grid0.Coords) (a1 : Memref sig .tc .vmem S1920x4096 .bf16) (h1 : a1.IsWhole) (a2 : Memref sig .tc .vmem S512x4096 .bf16) (h2 : a2.IsWhole)
  (a3 : Memref sig .tc .smem S2 .f32) (h3 : a3.IsWhole) (a4 : Memref sig .tc .vmem S2x16x4096 .bf16) (h4 : a4.IsWhole)

/-- The first point leaves x's maxima and the first weight block's over zero. -/
theorem sout_A (hc0 : cond0_0 i) (hc1 : ¬cond0_1 i) (x0 : Vec F S1920x4096 .bf16) (x1 : Vec F S512x4096 .bf16) :
    sout0_A_0 c i a1 h1 a2 h2 a3 h3 a4 h4 hc0 hc1 x0 x1 = two (k0_pay1 x0) (k0_pay3 (k0_pay2 (F := F)) x1) := by
  funext y
  unfold sout0_A_0 kernelRun0_A
  dsimp only
  sl_unfold_words
  rw [View.readCov_cons_toLoadRect, write1, write1]
  unfold two
  split
  · rename_i hy
    rw [write0 _ _ _ _ _ _ hy]
    simp only [View.readAt_eq_ld, h1.read_unread, View.ld_unit_zero (S := S1920x4096) hz2]
  · simp only [View.readAt_eq_ld, h2.read_unread, View.ld_unit_zero (S := S512x4096) hz2]

/-- A middle point raises the weights' maxima. -/
theorem sout_B (hc0 : ¬cond0_0 i) (hc1 : ¬cond0_1 i) (x0 : Vec F S1920x4096 .bf16) (x1 : Vec F S512x4096 .bf16) (P Q : Vec F S1x16x4096 .bf16) :
    sout0_B_0 c i a1 h1 a2 h2 a3 h3 a4 h4 hc0 hc1 x0 x1 (two P Q) = two P (k0_pay3 Q x1) := by
  funext y
  unfold sout0_B_0 kernelRun0_B
  dsimp only
  sl_unfold_words
  rw [write1]
  unfold two
  split
  · rename_i hy
    rw [View.writes_nil, h4.read_unread]
    exact if_pos hy
  · simp only [View.readAt_eq_ld, h2.read_unread, h4.read_unread, View.ld_unit_zero (S := S512x4096) hz2]
    rw [show View.ld _ _ = Q from two_read1 P Q _]

/-- The one index of a single number. -/
def one : S1.Idx
  | ⟨0, _⟩ => (⟨0, Nat.one_pos⟩ : Fin 1)

/-- The result: the two planes' maxima over 2688. -/
def scales (P Q : Vec F S1x16x4096 .bf16) : Vec F S2 .f32 := fun y => if (y 0).val = 0 then k0_pay4 P else k0_pay5 Q

/-- The last point raises the weights' maxima and stores the two scales. -/
theorem out_C (hc0 : ¬cond0_0 i) (hc1 : cond0_1 i) (x0 : Vec F S1920x4096 .bf16) (x1 : Vec F S512x4096 .bf16) (P Q : Vec F S1x16x4096 .bf16) :
    out0_C_2 c i a1 h1 a2 h2 a3 h3 a4 h4 hc0 hc1 x0 x1 (two P Q) = scales P (k0_pay3 Q x1) := by
  funext y
  have hy2 : (y 0).val < 2 := (y 0).isLt
  unfold out0_C_2 kernelRun0_C
  dsimp only
  sl_unfold_words
  unfold scales
  split
  · rename_i hy
    rw [View.read_writes_cons_unit_of_not_mem VO0_2 _ inb_S2_S1_1 _ _ y rfl (0 : Fin 1) (Or.inl (by show (y 0).val < 1; omega)),
      View.read_writes_cons_unit_of_mem VO0_2 _ inb_S2_S1_0 _ _ y one rfl (fun a => by
        match a with
        | ⟨0, _⟩ => show (y 0).val = 0 + 0; omega)]
    simp only [View.readAt_eq_ld, h4.read_unread]
    rw [show View.ld _ _ = P from two_read0 P Q _]
  · rename_i hy
    rw [View.read_writes_cons_unit_of_mem VO0_2 _ inb_S2_S1_1 _ _ y one rfl (fun a => by
        match a with
        | ⟨0, _⟩ => show (y 0).val = 1 + 0; omega), View.readCov_cons_toLoadRect]
    simp only [View.readAt_eq_ld, h2.read_unread, h4.read_unread, View.ld_unit_zero (S := S512x4096) hz2]
    rw [show View.ld _ _ = Q from two_read1 P Q _]

end Cert.AmaxIdeal.Gen

end
-- ==== Proof.Amax.Result.lean ====
/-
  The tensor scales, part 2: the planes after every grid point, by induction on the point, and the result array after the grid.
-/
module

public import proofs.«01_k».proof.Proof.Amax.Planes
public import Idealize.ShloMosaic.Lib.Claim

@[expose] public section

set_option maxRecDepth 16384

noncomputable section

namespace Cert.AmaxIdeal.Gen

open Idealize.ShloMosaic Idealize.ShloMosaic.TcCoe Idealize.ShloMosaic.Tactic
open Idealize.SL Idealize.SL.RA Idealize.SL.BI Idealize.SL.Sem
open scoped Idealize.SL.BI
open Idealize.ShloMosaic.Pipeline (Dat Cfg Window)

variable {F : FTy → Type} [FloatOps F]
variable (m : (ℓ : Loc nD τ sig) → Buf (Elt F) ℓ) (ρ : Dev nD → PrngReg)

/-- Where row `j` of weight block `b` lies in the weights. -/
def wrow (b : Fin 28) (j : S512x4096.Idx) : S14336x4096.Idx
  | ⟨0, _⟩ => (⟨512 * b.val + (j 0).val, by have := (j 0).isLt; have := b.isLt; change (j 0).val < 512 at *; omega⟩ : Fin 14336)
  | ⟨1, _⟩ => (j 1 : Fin 4096)

/-- Weight block `b`. -/
def wblk (B : Vec F S14336x4096 .bf16) (b : Fin 28) : Vec F S512x4096 .bf16 := fun j => B (wrow b j)

/-- The weights' running maxima after block `n`, over zero. -/
def wmax (B : Vec F S14336x4096 .bf16) : (n : ℕ) → n < 28 → Vec F S1x16x4096 .bf16
  | 0, h => k0_pay3 (k0_pay2 (F := F)) (wblk B ⟨0, h⟩)
  | n + 1, h => k0_pay3 (wmax B n (Nat.lt_of_succ_lt h)) (wblk B ⟨n + 1, h⟩)

abbrev arr0 (c : Dev nD) : Vec F S1920x4096 .bf16 := m ((c : Thread nD τ).loc main_arg0)
abbrev arr1 (c : Dev nD) : Vec F S14336x4096 .bf16 := m ((c : Thread nD τ).loc main_arg1)

theorem index0 : ∀ t : Fin cfg0.N, win0_0.index t 0 = 0 ∧ win0_0.index t 1 = 0 := by decide +kernel
theorem index1 : ∀ t : Fin cfg0.N, win0_1.index t 0 = t.val ∧ win0_1.index t 1 = 0 := by decide +kernel
theorem index2 : ∀ t : Fin cfg0.N, win0_2.index t 0 = 0 := by decide +kernel

theorem iblk0_eq (c : Dev nD) (t : Fin cfg0.N) : (iblk m c 0 t : Vec F S1920x4096 .bf16) = arr0 m c := by
  have hi := index0 t
  funext j
  unfold iblk
  rw [View.read_apply]
  show V m c main_arg0 _ = m (c.tc.loc main_arg0) _
  unfold V
  congr 1
  funext a
  apply Fin.ext
  match a with
  | ⟨0, _⟩ => show win0_0.index t 0 * 1920 + 1 * (j 0).val = (j 0).val; rw [hi.1]; omega
  | ⟨1, _⟩ => show win0_0.index t 1 * 4096 + 1 * (j 1).val = (j 1).val; rw [hi.2]; omega

theorem iblk1_eq (c : Dev nD) (t : Fin cfg0.N) (b : Fin 28) (hb : b.val = t.val) : (iblk m c 1 t : Vec F S512x4096 .bf16) = wblk (arr1 m c) b := by
  have hi := index1 t
  funext j
  unfold iblk wblk
  rw [View.read_apply]
  show V m c main_arg1 _ = m (c.tc.loc main_arg1) _
  unfold V
  congr 1
  funext a
  apply Fin.ext
  match a with
  | ⟨0, _⟩ => show win0_1.index t 0 * 512 + 1 * (j 0).val = 512 * b.val + (j 0).val; rw [hi.1]; omega
  | ⟨1, _⟩ => show win0_1.index t 1 * 4096 + 1 * (j 1).val = (j 1).val; rw [hi.2]; omega

/-- The planes after every point but the last. -/
theorem planes_eq (c : Dev nD) : ∀ (n : ℕ) (h : n < cfg0.N) (h' : n < 27),
    (outsAt0 m c n h).2 = two (k0_pay1 (arr0 m c)) (wmax (arr1 m c) n (Nat.lt_succ_of_lt h'))
  | 0, h, h' => by
    refine (congrArg Prod.snd (outsAt0_A m c ⟨0, h⟩ rfl (by dsimp only; omega))).trans ?_
    dsimp only
    rw [sout_A, iblk0_eq, iblk1_eq m c ⟨0, h⟩ ⟨0, by decide⟩ rfl]
    rfl
  | n + 1, h, h' => by
    refine (congrArg Prod.snd (outsAt0_B m c ⟨n + 1, h⟩ (by dsimp only; omega) (by dsimp only; omega))).trans ?_
    dsimp only
    rw [show (outsAt0 m c (n + 1 - 1) (Nat.lt_of_le_of_lt (Nat.sub_le _ _) h)).2 = two (k0_pay1 (arr0 m c)) (wmax (arr1 m c) n (Nat.lt_of_succ_lt (Nat.lt_succ_of_lt h')))
        from planes_eq c n (Nat.lt_of_succ_lt h) (Nat.lt_of_succ_lt h'), sout_B, iblk1_eq m c ⟨n + 1, h⟩ ⟨n + 1, by omega⟩ rfl]
    rfl

/-- The result array of core `c`. -/
abbrev result (c : Dev nD) : Buf (Elt F) ((c : Thread nD τ).loc main_v0) := scales (k0_pay1 (arr0 m c)) (wmax (arr1 m c) 27 (by decide))

/-- What the last point leaves in the result's buffer. -/
theorem last_eq (c : Dev nD) : ∀ (n : ℕ) (h : n + 1 < cfg0.N), n = 26 → (outsAt0 m c (n + 1) h).1 = result m c
  | n, h, h' => by
    subst h'
    refine (congrArg Prod.fst (outsAt0_C m c ⟨26 + 1, h⟩ (by dsimp only; omega) (by dsimp only))).trans ?_
    dsimp only [Nat.add_sub_cancel]
    rw [planes_eq m c 26 (Nat.lt_of_succ_lt h) (by decide), out_C, iblk1_eq m c ⟨26 + 1, h⟩ ⟨27, by decide⟩ rfl]
    rfl

/-- The one write-back, at the last point, writes it. -/
theorem flushed_eq (c : Dev nD) (t : Fin cfg0.N) (hf : (cfg0.win 2).flush t = true) :
    (dats m 0 c).flushed 2 t = ((cfg0.win 2).blk t).view.read (Elt F) (result m c) := by
  have hN : t.val < 28 := lt_of_lt_of_eq t.isLt (show cfg0.N = 28 from N_0)
  have h27 : t.val = 27 := by have := (flush0_2 t).mp hf; omega
  have hi := index2 t
  have hN' : (27 : ℕ) < cfg0.N := by rw [show cfg0.N = 28 from N_0]; decide
  obtain rfl : t = ⟨27, hN'⟩ := Fin.ext h27
  show (cfg0.win 2).cut (grid0.coords _) ((dats m 0 c).after 2 _) = _
  rw [after0_2, show (outsAt0 m c (⟨27, hN'⟩ : Fin cfg0.N).val (⟨27, hN'⟩ : Fin cfg0.N).isLt).1 = result m c from last_eq m c 26 hN' rfl]
  funext j
  rw [View.read_apply]
  show result m c j = result m c (((cfg0.win 2).blk ⟨27, hN'⟩).view.emb j)
  congr 1
  funext a
  apply Fin.ext
  match a with
  | ⟨0, _⟩ => show (j 0).val = win0_2.index ⟨27, hN'⟩ 0 * 2 + 1 * (j 0).val; rw [hi]; omega

/-- So the array ends at the result. -/
theorem final_s (c : Dev nD) : (dats m 0 c).arrAt 2 cfg0.N = result m c :=
  (dats m 0 c).arrAt_eq_of_cover 2 (result m c) (flushed_eq m c) fun i => by
    have h0 : (i 0 : Nat) < 2 := (i 0).isLt
    have hN' : (27 : ℕ) < cfg0.N := by rw [show cfg0.N = 28 from N_0]; decide
    refine ⟨⟨27, hN'⟩, (flush0_2 _).mpr rfl, ?_⟩
    have hi := index2 ⟨27, hN'⟩
    show i ∈ ((View.whole main_v0).slice (win0_2.rect ⟨27, hN'⟩)).set
    rw [View.set_slice_whole, Rect.mem_set_unit]
    intro a
    match a with
    | ⟨0, _⟩ => show win0_2.index ⟨27, hN'⟩ 0 * 2 ≤ (i 0 : Nat) ∧ (i 0 : Nat) < win0_2.index ⟨27, hN'⟩ 0 * 2 + 2
                rw [hi]; omega

/-- The run, read: the result array at the result, the arguments unchanged. -/
theorem run : θ_run defs (onTc (τ := τ) (main (F := F))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨((h c).1 2).trans (final_s m c), ((h c).1 0).trans ((dats m 0 c).arrAt_in 0 rfl _),
    ((h c).1 1).trans ((dats m 0 c).arrAt_in 1 rfl _)⟩)
    (run_main m ρ)

end Cert.AmaxIdeal.Gen

end
-- ==== Proof.Amax.Bound.lean ====
/-
  The tensor scales, part 3: over the extended reals a number bounds a maximum exactly when it bounds every element under it. So the
  kernel's blocked maxima and the reference's one maximum have the same upper bounds, and are equal.
-/
module

public import proofs.«01_k».proof.Proof.Amax.Result
public import proofs.«01_k».proof.Proof.Gen.AmaxReferenceIdeal
public import Idealize.ShloMosaic.PureOps.Ideal.Laws
public import Idealize.ShloMosaic.PureOps.Reduce

@[expose] public section

set_option maxRecDepth 16384

noncomputable section

namespace Cert.Tie

open Idealize.ShloMosaic Idealize.ShloMosaic.TcCoe Idealize.SL.Sem
open Cert.AmaxIdeal Cert.AmaxIdeal.Gen

/-- `|x|`. -/
def mag (x : EReal) : EReal := max x (-x)

theorem mag_nonneg (x : EReal) : 0 ≤ mag x := by
  unfold mag
  rcases le_total 0 x with h | h
  · exact le_max_of_le_left h
  · exact le_max_of_le_right (EReal.neg_nonneg.2 h)

theorem bot16 : Ideal.ofBits .bf16 0xFF80#16 = ⊥ := by simp [Ideal.ofBits, Ideal.ieee]
theorem bot32 : Ideal.ofBits .f32 0xFF800000#32 = ⊥ := by simp [Ideal.ofBits, Ideal.ieee]
theorem zero16 : Ideal.ofBits .bf16 0x0000#16 = 0 := by simp [Ideal.ofBits, Ideal.ieee]

/-- A bound of every maximum of a reduction is a bound of every element reduced. -/
theorem multi_le {s t : Shape} {φ : FTy} {axes : List (Fin s.rank)} (src : FVec Ideal s φ) (acc : BitVec φ.bits)
    (h : s.Reduces axes t) (hφ : FKind.Formats φ) (hacc : acc = FKind.maximumf.neutral φ hφ) (hb : Ideal.ofBits φ acc = ⊥) (z : EReal) :
    (∀ j, multiReduction .maximumf axes t src acc h hφ hacc j ≤ z) ↔ ∀ i, src i ≤ z := by
  constructor
  · intro H i
    have := H (h.drop i)
    rw [multiReduction_maximumf_eq_fold] at this
    exact ((Finset.fold_max_le z).1 this).2 i (Finset.mem_filter.2 ⟨Finset.mem_univ _, rfl⟩)
  · intro H j
    rw [multiReduction_maximumf_eq_fold]
    exact (Finset.fold_max_le z).2 ⟨by rw [Ideal.ofBits_def, hb]; exact bot_le, fun i _ => H i⟩

/-- The same of the host's reduction. -/
theorem host_le {s t u : Shape} {axes : List (Fin s.rank)} (src : s.Idx → EReal) (init : u.Idx → EReal)
    (h : s.ReducesTo axes t) (hu : 0 < u.numel) (hb : ∀ k, init k = ⊥) (z : EReal) :
    (∀ j, Host.reduce (FloatOps.maximumf (F := Ideal) (φ := .f32)) src init h hu j ≤ z) ↔ ∀ i, src i ≤ z := by
  constructor
  · intro H i
    have := H (h.drop i)
    rw [Host.reduce_eq_fold] at this
    exact ((Finset.fold_max_le z).1 this).2 i (Finset.mem_filter.2 ⟨Finset.mem_univ _, rfl⟩)
  · intro H j
    rw [Host.reduce_eq_fold]
    exact (Finset.fold_max_le z).2 ⟨by rw [hb]; exact bot_le, fun i _ => H i⟩

/-- A reshape has the same elements. -/
theorem cast_le {s t : Shape} (x : s.Idx → EReal) (h : s.ShapeCasts t) (z : EReal) :
    (∀ j, shapeCast t x h j ≤ z) ↔ ∀ i, x i ≤ z :=
  ⟨fun H i => by
    have := H ((Shape.reshapeEquiv h).symm i)
    unfold shapeCast at this
    rwa [Equiv.apply_symm_apply] at this, fun H j => H _⟩

theorem pay1_le (x : Vec Ideal S1920x4096 .bf16) (z : EReal) : (∀ i, k0_pay1 (F := Ideal) x i ≤ z) ↔ ∀ i, mag (x i) ≤ z := by
  unfold k0_pay1
  dsimp only
  rw [cast_le]
  exact (multi_le (φ := .bf16) _ 0xFF80#16 reduces_S120x16x4096_S16x4096 (.inr rfl) rfl bot16 z).trans
    (cast_le (fun i => mag (x i)) shapeCasts_S1920x4096_S120x16x4096 z)

theorem pay2_le (z : EReal) (hz : 0 ≤ z) : ∀ i, k0_pay2 (F := Ideal) i ≤ z := by
  unfold k0_pay2
  rw [cast_le]
  exact fun _ => (le_of_eq zero16).trans hz

theorem pay3_le (p : Vec Ideal S1x16x4096 .bf16) (w : Vec Ideal S512x4096 .bf16) (z : EReal) :
    (∀ i, k0_pay3 (F := Ideal) p w i ≤ z) ↔ (∀ i, p i ≤ z) ∧ ∀ i, mag (w i) ≤ z := by
  unfold k0_pay3
  dsimp only
  rw [cast_le]
  have hp : (∀ j, shapeCast S16x4096 p shapeCasts_S1x16x4096_S16x4096 j ≤ z) ↔ ∀ i, p i ≤ z := cast_le p _ z
  have hw : (∀ j, multiReduction (F := Ideal) .maximumf [0] S16x4096 (shapeCast S32x16x4096 (absf w) shapeCasts_S512x4096_S32x16x4096) 0xFF80#16
      reduces_S32x16x4096_S16x4096 (.inr rfl) rfl j ≤ z) ↔ ∀ i, mag (w i) ≤ z :=
    (multi_le (φ := .bf16) _ 0xFF80#16 reduces_S32x16x4096_S16x4096 (.inr rfl) rfl bot16 z).trans
      (cast_le (fun i => mag (w i)) shapeCasts_S512x4096_S32x16x4096 z)
  rw [← hp, ← hw]
  exact ⟨fun H => ⟨fun j => (max_le_iff.1 (H j)).1, fun j => (max_le_iff.1 (H j)).2⟩, fun H j => max_le_iff.2 ⟨H.1 j, H.2 j⟩⟩

/-- The weights' running maxima after block `n` are bounded by `z` when `0` is and every element of the blocks so far. -/
theorem wmax_le (B : Vec Ideal S14336x4096 .bf16) (z : EReal) (hz : 0 ≤ z) : ∀ (n : ℕ) (h : n < 28),
    (∀ i, wmax (F := Ideal) B n h i ≤ z) ↔ ∀ b : Fin 28, b.val ≤ n → ∀ j, mag (wblk B b j) ≤ z
  | 0, h => by
    refine (pay3_le _ _ z).trans ⟨fun H b hb => ?_, fun H => ⟨pay2_le z hz, H ⟨0, h⟩ (Nat.le_refl _)⟩⟩
    obtain rfl : b = ⟨0, h⟩ := Fin.ext (Nat.le_zero.1 hb)
    exact H.2
  | n + 1, h => by
    refine (pay3_le _ _ z).trans ⟨fun H b hb => ?_, fun H => ⟨(wmax_le B z hz n (Nat.lt_of_succ_lt h)).2 fun b hb => H b (Nat.le_succ_of_le hb), H ⟨n + 1, h⟩ (Nat.le_refl _)⟩⟩
    rcases Nat.lt_or_ge n b.val with hlt | hge
    · obtain rfl : b = ⟨n + 1, h⟩ := Fin.ext (Nat.le_antisymm hb hlt)
      exact H.2
    · exact (wmax_le B z hz n (Nat.lt_of_succ_lt h)).1 H.1 b hge

/-- The maximum of one plane. -/
def top (P : Vec Ideal S1x16x4096 .bf16) : EReal :=
  multiReduction (F := Ideal) .maximumf [1, 2] S1 (shapeCast S1x16x4096 (shapeCast S16x4096 P shapeCasts_S1x16x4096_S16x4096) shapeCasts_S16x4096_S1x16x4096)
    0xFF800000#32 reduces_S1x16x4096_S1 (.inl rfl) rfl one

theorem one_eq (j : S1.Idx) : j = one := by
  funext a
  match a with
  | ⟨0, _⟩ => exact Fin.ext (Nat.lt_one_iff.1 (j 0).isLt)

theorem top_le (P : Vec Ideal S1x16x4096 .bf16) (z : EReal) : top P ≤ z ↔ ∀ i, P i ≤ z := by
  have h : (∀ j, multiReduction (F := Ideal) .maximumf [1, 2] S1 (shapeCast S1x16x4096 (shapeCast S16x4096 P shapeCasts_S1x16x4096_S16x4096) shapeCasts_S16x4096_S1x16x4096)
    0xFF800000#32 reduces_S1x16x4096_S1 (.inl rfl) rfl j ≤ z) ↔ ∀ i, P i ≤ z :=
    (multi_le (φ := .f32) _ 0xFF800000#32 reduces_S1x16x4096_S1 (.inl rfl) rfl bot32 z).trans
      ((cast_le _ shapeCasts_S16x4096_S1x16x4096 z).trans (cast_le P shapeCasts_S1x16x4096_S16x4096 z))
  rw [← h]
  exact ⟨fun H j => by rw [one_eq j]; exact H, fun H => H one⟩

theorem pay4_eq (P : Vec Ideal S1x16x4096 .bf16) : k0_pay4 (F := Ideal) P = Ideal.div (top P) (Ideal.ofBits .f32 0x45280000#32) := by
  have h : ∀ v : FVec Ideal S1 .f32, extractAt ![0, 0, 0] (shapeCast S1x1x1 v shapeCasts_S1_S1x1x1) inpos_S1x1x1_p0_0_0 = v one :=
    fun v => congrArg v (one_eq _)
  unfold k0_pay4 top
  dsimp only
  rw [h]
  rfl

theorem pay5_eq (P : Vec Ideal S1x16x4096 .bf16) : k0_pay5 (F := Ideal) P = Ideal.div (top P) (Ideal.ofBits .f32 0x45280000#32) := pay4_eq P

end Cert.Tie

end
-- ==== Proof.Amax.Reference.lean ====
/-
  The tensor scales' reference: host operations only, each buffer's final contents computed from the launch contents.
-/
module

public import proofs.«01_k».proof.Defs
public import proofs.«01_k».proof.Proof.Gen.AmaxReferenceIdeal
public import Idealize.ShloMosaic.Lib.Claim
public import Idealize.ShloMosaic.Lib.Quiescent
public import Idealize.ShloMosaic.Adequacy
public import Idealize.ShloMosaic.Init

@[expose] public section

set_option maxRecDepth 16384

noncomputable section

namespace Cert.Tie

open Idealize.ShloMosaic Idealize.ShloMosaic.TcCoe Idealize.SL.Sem

theorem amax_reference_quiescent : Cert.quiescent_AmaxReferenceIdeal := by
  intro m g _
  have h : θ_run (Cert.AmaxReferenceIdeal.defs (F := Ideal)) (onTc (τ := Cert.AmaxReferenceIdeal.τ) (Cert.AmaxReferenceIdeal.main (F := Ideal))) ⟨m, fun _ => 0, g⟩
      (fun r => ∀ c : Dev Cert.AmaxReferenceIdeal.nD,
        r.2.mem ((c.tc : Thread Cert.AmaxReferenceIdeal.nD Cert.AmaxReferenceIdeal.τ).loc Cert.AmaxReferenceIdeal.main_arg0) = m ((c.tc : Thread Cert.AmaxReferenceIdeal.nD Cert.AmaxReferenceIdeal.τ).loc Cert.AmaxReferenceIdeal.main_arg0)
          ∧ r.2.mem ((c.tc : Thread Cert.AmaxReferenceIdeal.nD Cert.AmaxReferenceIdeal.τ).loc Cert.AmaxReferenceIdeal.main_arg1) = m ((c.tc : Thread Cert.AmaxReferenceIdeal.nD Cert.AmaxReferenceIdeal.τ).loc Cert.AmaxReferenceIdeal.main_arg1)) := by
    hlo_run
  exact θ_run_mono h fun r hr => ⟨hr, sem_eq_zero_of_no_sems rfl _⟩

end Cert.Tie

end
-- ==== Proof.Amax.Claims.lean ====
/-
  The claims about the tensor scales at the ideal reading: the call's frame, and that its two numbers are the reference's.
-/
module

public import proofs.«01_k».proof.Proof.Amax.Bound
public import proofs.«01_k».proof.Proof.Amax.Reference
public import Idealize.ShloMosaic.Lib.Pipeline.Value

@[expose] public section

set_option maxRecDepth 16384

noncomputable section

namespace Cert.Tie

open Idealize.ShloMosaic Idealize.ShloMosaic.TcCoe Idealize.SL.Sem
open Cert.AmaxIdeal.Gen

/-- The reference's largest magnitude of the activations. -/
def xmax (A : Vec Ideal Cert.AmaxReferenceIdeal.S1920x4096 .bf16) : Vec Ideal Cert.AmaxReferenceIdeal.S_ .f32 :=
  Host.reduce (FloatOps.maximumf (F := Ideal) (φ := .f32)) (Host.absf (extf (F := Ideal) .f32 A Cert.AmaxReferenceIdeal.Facts₀.bitsLt_bf16_f32)) (constant (F := Ideal) Cert.AmaxReferenceIdeal.S_ .f32 0xFF800000#32)
    Cert.AmaxReferenceIdeal.Facts₀.reducesTo_S1920x4096_S_d0_1 Cert.AmaxReferenceIdeal.Facts₀.h_S_

/-- The reference's largest magnitude of the weights. -/
def hmax (B : Vec Ideal Cert.AmaxReferenceIdeal.S14336x4096 .bf16) : Vec Ideal Cert.AmaxReferenceIdeal.S_ .f32 :=
  Host.reduce (FloatOps.maximumf (F := Ideal) (φ := .f32)) (Host.absf (extf (F := Ideal) .f32 B Cert.AmaxReferenceIdeal.Facts₀.bitsLt_bf16_f32)) (constant (F := Ideal) Cert.AmaxReferenceIdeal.S_ .f32 0xFF800000#32)
    Cert.AmaxReferenceIdeal.Facts₀.reducesTo_S14336x4096_S_d0_1 Cert.AmaxReferenceIdeal.Facts₀.h_S_

/-- A maximum over 2688, as a vector of one element. -/
def over (v : Vec Ideal Cert.AmaxReferenceIdeal.S_ .f32) : Vec Ideal Cert.AmaxReferenceIdeal.S1 .f32 :=
  broadcastInDim Cert.AmaxReferenceIdeal.S1 ![] Cert.AmaxReferenceIdeal.Facts₀.bcast_S_S1 (Host.divf v (constant (F := Ideal) Cert.AmaxReferenceIdeal.S_ .f32 0x45280000#32))

/-- The reference's two numbers. -/
def amax_refv (A : Vec Ideal Cert.AmaxReferenceIdeal.S1920x4096 .bf16) (B : Vec Ideal Cert.AmaxReferenceIdeal.S14336x4096 .bf16) :
    Vec Ideal Cert.AmaxReferenceIdeal.S2 .f32 :=
  concatenate Cert.AmaxReferenceIdeal.S2 0 [⟨Cert.AmaxReferenceIdeal.S1, over (xmax A)⟩, ⟨Cert.AmaxReferenceIdeal.S1, over (hmax B)⟩]
    Cert.AmaxReferenceIdeal.Facts₀.concatenates_S1_S1_S2_d0

/-- The reference ends with `amax_refv` of its operands. -/
theorem amax_reference_run (m : (ℓ : Loc Cert.AmaxReferenceIdeal.nD Cert.AmaxReferenceIdeal.τ Cert.AmaxReferenceIdeal.sig) → Buf (Elt Ideal) ℓ)
    (g : Dev Cert.AmaxReferenceIdeal.nD → PrngReg) :
    θ_run (Cert.AmaxReferenceIdeal.defs (F := Ideal)) (onTc (τ := Cert.AmaxReferenceIdeal.τ) (Cert.AmaxReferenceIdeal.main (F := Ideal))) ⟨m, fun _ => 0, g⟩
      (fun r => ∀ c : Dev Cert.AmaxReferenceIdeal.nD,
        r.2.mem ((c.tc : Thread Cert.AmaxReferenceIdeal.nD Cert.AmaxReferenceIdeal.τ).loc Cert.AmaxReferenceIdeal.main_v10)
            = amax_refv (m ((c.tc : Thread Cert.AmaxReferenceIdeal.nD Cert.AmaxReferenceIdeal.τ).loc Cert.AmaxReferenceIdeal.main_arg0))
                (m ((c.tc : Thread Cert.AmaxReferenceIdeal.nD Cert.AmaxReferenceIdeal.τ).loc Cert.AmaxReferenceIdeal.main_arg1))
          ∧ r.2.mem ((c.tc : Thread Cert.AmaxReferenceIdeal.nD Cert.AmaxReferenceIdeal.τ).loc Cert.AmaxReferenceIdeal.main_arg0) = m ((c.tc : Thread Cert.AmaxReferenceIdeal.nD Cert.AmaxReferenceIdeal.τ).loc Cert.AmaxReferenceIdeal.main_arg0)
          ∧ r.2.mem ((c.tc : Thread Cert.AmaxReferenceIdeal.nD Cert.AmaxReferenceIdeal.τ).loc Cert.AmaxReferenceIdeal.main_arg1) = m ((c.tc : Thread Cert.AmaxReferenceIdeal.nD Cert.AmaxReferenceIdeal.τ).loc Cert.AmaxReferenceIdeal.main_arg1)) := by
  hlo_run
  rfl

/-- A scalar has one index. -/
theorem scalar_eq (j k : Cert.AmaxReferenceIdeal.S_.Idx) : j = k := funext fun a => a.elim0

theorem xmax_le (A : Vec Ideal Cert.AmaxReferenceIdeal.S1920x4096 .bf16) (k : Cert.AmaxReferenceIdeal.S_.Idx) (z : EReal) :
    xmax A k ≤ z ↔ ∀ i, mag (A i) ≤ z := by
  have h := host_le (fun i => mag (A i)) (constant (F := Ideal) Cert.AmaxReferenceIdeal.S_ .f32 0xFF800000#32) Cert.AmaxReferenceIdeal.Facts₀.reducesTo_S1920x4096_S_d0_1
    Cert.AmaxReferenceIdeal.Facts₀.h_S_ (fun _ => bot32) z
  rw [← h]
  exact ⟨fun H j => by rw [scalar_eq j k]; exact H, fun H => H k⟩

theorem hmax_le (B : Vec Ideal Cert.AmaxReferenceIdeal.S14336x4096 .bf16) (k : Cert.AmaxReferenceIdeal.S_.Idx) (z : EReal) :
    hmax B k ≤ z ↔ ∀ i, mag (B i) ≤ z := by
  have h := host_le (fun i => mag (B i)) (constant (F := Ideal) Cert.AmaxReferenceIdeal.S_ .f32 0xFF800000#32) Cert.AmaxReferenceIdeal.Facts₀.reducesTo_S14336x4096_S_d0_1
    Cert.AmaxReferenceIdeal.Facts₀.h_S_ (fun _ => bot32) z
  rw [← h]
  exact ⟨fun H j => by rw [scalar_eq j k]; exact H, fun H => H k⟩

/-- Every weight lies in one of the 28 blocks. -/
theorem row_eq (i : Cert.AmaxIdeal.S14336x4096.Idx) : ∃ (b : Fin 28) (j : Cert.AmaxIdeal.S512x4096.Idx), wrow b j = i := by
  have hi : (i 0).val < 14336 := (i 0).isLt
  refine ⟨⟨(i 0).val / 512, by omega⟩, (fun | ⟨0, _⟩ => (⟨(i 0).val % 512, Nat.mod_lt _ (by decide)⟩ : Fin 512) | ⟨1, _⟩ => (i 1 : Fin 4096)), ?_⟩
  funext a
  match a with
  | ⟨0, _⟩ => exact Fin.ext (Nat.div_add_mod (i 0).val 512)
  | ⟨1, _⟩ => rfl

/-- The first maximum is the reference's. -/
theorem top_x (A : Vec Ideal Cert.AmaxIdeal.S1920x4096 .bf16) (k : Cert.AmaxReferenceIdeal.S_.Idx) : top (k0_pay1 A) = xmax A k :=
  eq_of_forall_ge_iff fun z => (top_le _ z).trans ((pay1_le A z).trans (xmax_le A k z).symm)

/-- So is the second. The running maximum's starting zero changes nothing: every magnitude is at least zero, and there is one. -/
theorem top_w (B : Vec Ideal Cert.AmaxIdeal.S14336x4096 .bf16) (k : Cert.AmaxReferenceIdeal.S_.Idx) :
    top (wmax B 27 (by decide)) = hmax B k := by
  have key : ∀ z : EReal, 0 ≤ z → (top (wmax B 27 (by decide)) ≤ z ↔ hmax B k ≤ z) := fun z hz =>
    (top_le _ z).trans ((wmax_le B z hz 27 (by decide)).trans (Iff.trans
      ⟨fun H i => by obtain ⟨b, j, rfl⟩ := row_eq i; exact H b (Nat.le_of_lt_succ b.isLt) j, fun H b _ j => H (wrow b j)⟩ (hmax_le B k z).symm))
  have i0 : Cert.AmaxIdeal.S14336x4096.Idx := wrow 0 (fun | ⟨0, _⟩ => (0 : Fin 512) | ⟨1, _⟩ => (0 : Fin 4096))
  have h0 : 0 ≤ hmax B k := (mag_nonneg (B i0)).trans ((hmax_le B k _).1 le_rfl i0)
  have hle : top (wmax B 27 (by decide)) ≤ hmax B k := (key _ h0).2 le_rfl
  refine le_antisymm hle ((key _ ?_).1 le_rfl)
  have hlast : ∀ j, mag (wblk B ⟨27, by decide⟩ j) ≤ top (wmax B 27 (by decide)) :=
    ((pay3_le (wmax B 26 (by decide)) (wblk B ⟨27, by decide⟩) _).1 ((top_le (wmax B 27 (by decide)) _).1 le_rfl)).2
  exact (mag_nonneg _).trans (hlast (fun | ⟨0, _⟩ => (0 : Fin 512) | ⟨1, _⟩ => (0 : Fin 4096)))

/-- The kernel's two numbers are the reference's. -/
theorem amax_tie (A : Vec Ideal Cert.AmaxIdeal.S1920x4096 .bf16) (B : Vec Ideal Cert.AmaxIdeal.S14336x4096 .bf16) :
    (scales (k0_pay1 A) (wmax B 27 (by decide)) : Vec Ideal Cert.AmaxIdeal.S2 .f32) = amax_refv A B := by
  funext y
  have hy : (y 0).val < 2 := (y 0).isLt
  unfold scales amax_refv
  rcases Nat.lt_or_ge (y 0).val 1 with h | h
  · rw [if_pos (Nat.lt_one_iff.1 h), pay4_eq]
    refine Eq.symm ((concatenate_pair_apply_left (t := Cert.AmaxReferenceIdeal.S2) (s₁ := Cert.AmaxReferenceIdeal.S1) (s₂ := Cert.AmaxReferenceIdeal.S1) 0 _ _ _ y rfl one ?_).trans ?_)
    · intro b
      match b with
      | ⟨0, _⟩ => exact (Nat.lt_one_iff.1 h).symm
    · rw [top_x A (fun a => a.elim0)]
      exact congrArg (fun k => Ideal.div (xmax A k) (Ideal.ofBits .f32 0x45280000#32)) (scalar_eq _ _)
  · rw [if_neg (by omega), pay5_eq]
    refine Eq.symm ((concatenate_pair_apply_right (t := Cert.AmaxReferenceIdeal.S2) (s₁ := Cert.AmaxReferenceIdeal.S1) (s₂ := Cert.AmaxReferenceIdeal.S1) 0 _ _ _ y rfl rfl one ?_ ?_).trans ?_)
    · intro b hb
      match b with
      | ⟨0, _⟩ => exact absurd rfl hb
    · show 0 + 1 = (y 0).val
      omega
    · rw [top_w B (fun a => a.elim0)]
      exact congrArg (fun k => Ideal.div (hmax B k) (Ideal.ofBits .f32 0x45280000#32)) (scalar_eq _ _)

theorem amax_algebraic : Cert.algebraic_AmaxIdeal_AmaxReferenceIdeal := by
  intro m g m' g' _ hagree
  refine ⟨fun c => Cert.AmaxIdeal.Gen.result (F := Ideal) m c, Cert.AmaxIdeal.Gen.run m g, ?_⟩
  refine θ_run_mono (amax_reference_run m' g') fun r hr c => ⟨(hr c).1.trans ?_, (hr c).2⟩
  obtain ⟨h0, h1⟩ := hagree c
  rw [h0, h1]
  exact (amax_tie _ _).symm

end Cert.Tie

end
-- ==== Proof.Xsb.Unit.lean ====
/-
  The block scales, part 1: the operations of `xquant`'s body, each written once, and what the body stores of them.
  The maximum of 16 neighbouring lanes is taken in four steps, at distances 8, 4, 2 and 1; the scales of one 32-row chunk of
  two 128-lane tiles are put side by side and every sixteenth lane is gathered to the front; the lane tiles are then selected in turn.
-/
module

public import proofs.«01_k».proof.Proof.Gen.XsbIdeal

@[expose] public section

set_option maxRecDepth 16384

noncomputable section

namespace Cert.XsbIdeal.Gen

open Idealize.ShloMosaic Idealize.ShloMosaic.TcCoe Idealize.SL.Sem

variable {F : FTy → Type} [FloatOps F]

/-- The lane number. -/
def lane : IVec S8x128 32 := iota .tc S8x128 32 [1] iota_S8x128_d1_w32

/-- The lanes of `v` at the indices `idx`, a negative index counted from the end. -/
def pm (v : FVec F S8x128 .f32) (idx : IVec S8x128 32) : FVec F S8x128 .f32 :=
  dynamicGather 1 v (shapeCast S8x128 (shapeCast S8x128x1 (select (cmpi .slt idx (broadcast S8x128 0#32)) (addi idx (broadcast S8x128 128#32)) idx)
    shapeCasts_S8x128_S8x128x1) shapeCasts_S8x128x1_S8x128)

/-- Every lane's maximum with the lane at distance `k`. -/
def stp (k : BitVec 32) (v : FVec F S8x128 .f32) : FVec F S8x128 .f32 := maximumf v (pm v (xori lane (broadcast S8x128 k)))

/-- The maximum over groups of 16 lanes. -/
def gmx (v : FVec F S8x128 .f32) : FVec F S8x128 .f32 := stp 1#32 (stp 2#32 (stp 4#32 (stp 8#32 v)))

/-- The scale of a maximum. -/
def sc (s : F .f32) (m : FVec F S8x128 .f32) : FVec F S8x128 .f32 :=
  extf .f32 (truncf .fp8e4m3 (minimumf (divf m (broadcast S8x128 (Scalar.mulf s (Scalar.ofBits .f32 0x40C00000#32))))
    (broadcast S8x128 (Scalar.ofBits .f32 0x43E00000#32))) bitsLt_fp8e4m3_f32) bitsLt_fp8e4m3_f32

/-- The scales of one 8x128 tile. -/
def un (s : F .f32) (x : FVec F S8x128 .bf16) : FVec F S8x128 .f32 := sc s (gmx (absf (extf .f32 x bitsLt_bf16_f32)))

/-- The scales of 16 rows and two lane tiles. -/
def half (s : F .f32) (a b c d : FVec F S8x128 .bf16) : FVec F S16x256 .f32 :=
  concatenate S16x256 1 [⟨S16x128, concatenate S16x128 0 [⟨S8x128, un s a⟩, ⟨S8x128, un s b⟩] concatenates_S8x128_S8x128_S16x128_d0⟩,
    ⟨S16x128, concatenate S16x128 0 [⟨S8x128, un s c⟩, ⟨S8x128, un s d⟩] concatenates_S8x128_S8x128_S16x128_d0⟩] concatenates_S16x128_S16x128_S16x256_d1

/-- The scales of chunk `c` of the 32 rows `h`: `X q l` is the tile of rows `8q` and lanes `128l`. -/
def chunk (s : F .f32) (X : ℕ → ℕ → FVec F S8x128 .bf16) (h c : ℕ) : FVec F S32x256 .f32 :=
  concatenate S32x256 0 [⟨S16x256, half s (X (4 * h) (2 * c)) (X (4 * h + 1) (2 * c)) (X (4 * h) (2 * c + 1)) (X (4 * h + 1) (2 * c + 1))⟩,
    ⟨S16x256, half s (X (4 * h + 2) (2 * c)) (X (4 * h + 3) (2 * c)) (X (4 * h + 2) (2 * c + 1)) (X (4 * h + 3) (2 * c + 1))⟩] concatenates_S16x256_S16x256_S32x256_d0

theorem slices_ut (u t : ℕ) : S32x256.Slices ![8 * (u % 4), 128 * (t % 2)] S8x128 := by
  refine ⟨rfl, fun a => ?_⟩
  match a with
  | ⟨0, _⟩ => show 8 * (u % 4) + 8 ≤ 32; omega
  | ⟨1, _⟩ => show 128 * (t % 2) + 128 ≤ 256; omega

/-- Eight rows of one lane tile of a chunk, every sixteenth lane gathered. -/
def got (u t : ℕ) (C : FVec F S32x256 .f32) : FVec F S8x128 .f32 :=
  pm (extractStridedSlice S8x128 ![8 * (u % 4), 128 * (t % 2)] C (slices_ut u t)) (muli (andi lane (broadcast S8x128 7#32)) (broadcast S8x128 16#32))

/-- Eight rows of the scales of lane tiles `16T, …, 16T + n`: each tile's lanes selected over those before. -/
def col (s : F .f32) (X : ℕ → ℕ → FVec F S8x128 .bf16) (h T u n : ℕ) : FVec F S8x128 .f32 :=
  Nat.rec (motive := fun _ => FVec F S8x128 .f32) (got u 0 (chunk s X h (8 * T)))
    (fun n v => select (cmpi .eq (shrsi lane (broadcast S8x128 3#32)) (broadcast S8x128 (BitVec.ofNat 32 (n + 1))))
      (got u (n + 1) (chunk s X h (8 * T + (n + 1) / 2))) v) n

/-- What the body stores at the 32 rows `h` and the 128 lanes `T`. -/
def piece (s : F .f32) (X : ℕ → ℕ → FVec F S8x128 .bf16) (h T : ℕ) : FVec F S32x128 .fp8e4m3 :=
  truncf .fp8e4m3 (concatenate S32x128 0 [⟨S8x128, col s X h T 0 15⟩, ⟨S8x128, col s X h T 1 15⟩, ⟨S8x128, col s X h T 2 15⟩, ⟨S8x128, col s X h T 3 15⟩]
    concatenates_S8x128_S8x128_S8x128_S8x128_S32x128_d0) bitsLt_fp8e4m3_f32

theorem inb_ql (q l : ℕ) : ∀ a, ![8 * (q % 16), 128 * (l % 32)] a + S8x128.size a ≤ S128x4096.size a := by
  intro a
  match a with
  | ⟨0, _⟩ => show 8 * (q % 16) + 8 ≤ 128; omega
  | ⟨1, _⟩ => show 128 * (l % 32) + 128 ≤ 4096; omega

/-- The tile of rows `8q` and lanes `128l` read of a block's buffer. -/
def rd {sig : RefSig} {κ : Kind} {sp : Space} (v : View sig κ sp S128x4096 .bf16) (f : v.ty.Contents (Elt F)) (q l : ℕ) : Vec F S8x128 .bf16 :=
  v.readAt (Elt F) (Rect.unit (s := S128x4096) ![8 * (q % 16), 128 * (l % 32)] S8x128.size (inb_ql q l)).toLoadRect f

end Cert.XsbIdeal.Gen

end
-- ==== Proof.Xsb.Value.lean ====
/-
  The block scales, part 2: what the body stores, over the extended reals. At row `r` and lane `l` it is
  `min (max over e < 16 of |x[r, 16 l + e]| / (s 6)) 448`; the maximum is known by its upper bounds.
-/
module

public import proofs.«01_k».proof.Proof.Xsb.Unit
public import Idealize.ShloMosaic.PureOps.Ideal.Laws
public import Idealize.ShloMosaic.Lib.Pipeline.Value
public import Idealize.ShloMosaic.Lib.Pointwise.Index

@[expose] public section

set_option maxRecDepth 16384

noncomputable section

namespace Cert.XsbIdeal.Gen

open Idealize.ShloMosaic Idealize.ShloMosaic.TcCoe Idealize.SL.Sem

theorem ix2_eta {a b : ℕ} (j : (⟨2, ![a, b]⟩ : Shape).Idx) : j = ix2 (j 0 : Fin a) (j 1 : Fin b) := by
  funext k
  match k with
  | ⟨0, _⟩ => rfl
  | ⟨1, _⟩ => rfl

/-- An index counted from the end when negative. -/
def fixw (i : BitVec 32) : BitVec 32 := Scalar.select (IntOp.cmpi .slt i 0#32) (IntOp.addi i 128#32) i

theorem pm_apply (v : FVec Ideal S8x128 .f32) (idx : IVec S8x128 32) (r : Fin 8) (l : Fin 128) :
    pm v idx (ix2 r l) = v (ix2 r ⟨(fixw (idx (ix2 r l))).toNat % 128, Nat.mod_lt _ (by decide)⟩) := by
  unfold pm
  rw [shapeCast_shapeCast]
  show v _ = v _
  congr 1
  funext b
  match b with
  | ⟨0, _⟩ => rfl
  | ⟨1, _⟩ => rfl

theorem lane_apply (r : Fin 8) (l : Fin 128) : lane (ix2 r l) = BitVec.ofNat 32 l.val := by
  show BitVec.ofNat 32 (0 * 128 + l.val) = _
  rw [Nat.zero_mul, Nat.zero_add]

/-- Lane `e` of group `g`. -/
def at16 (g : Fin 8) (e : Fin 16) : Fin 128 := ⟨16 * g.val + e.val, by omega⟩

theorem xor_at : ∀ (k e : Fin 16) (g : Fin 8),
    (fixw (IntOp.xori (BitVec.ofNat 32 (at16 g e).val) (BitVec.ofNat 32 k.val))).toNat % 128 = (at16 g (e ^^^ k)).val := by decide +kernel

theorem stp_le (v : FVec Ideal S8x128 .f32) (k e : Fin 16) (g : Fin 8) (r : Fin 8) (z : EReal) :
    stp (BitVec.ofNat 32 k.val) v (ix2 r (at16 g e)) ≤ z ↔ v (ix2 r (at16 g e)) ≤ z ∧ v (ix2 r (at16 g (e ^^^ k))) ≤ z := by
  show max (v (ix2 r (at16 g e))) (pm v _ (ix2 r (at16 g e))) ≤ z ↔ _
  rw [pm_apply, max_le_iff]
  have h : xori lane (broadcast S8x128 (BitVec.ofNat 32 k.val)) (ix2 r (at16 g e)) = IntOp.xori (BitVec.ofNat 32 (at16 g e).val) (BitVec.ofNat 32 k.val) :=
    congrArg (fun w => IntOp.xori w (BitVec.ofNat 32 k.val)) (lane_apply r (at16 g e))
  have h' : (⟨(fixw (xori lane (broadcast S8x128 (BitVec.ofNat 32 k.val)) (ix2 r (at16 g e)))).toNat % 128, Nat.mod_lt _ (by decide)⟩ : Fin 128) = at16 g (e ^^^ k) :=
    Fin.ext (by dsimp only; rw [h]; exact xor_at k e g)
  rw [h']

/-- A bound of a group's maximum is a bound of its lanes. -/
theorem gmx_le (v : FVec Ideal S8x128 .f32) (g : Fin 8) (r : Fin 8) (z : EReal) :
    gmx v (ix2 r (at16 g 0)) ≤ z ↔ ∀ e : Fin 16, v (ix2 r (at16 g e)) ≤ z := by
  have h1 : ∀ (w : FVec Ideal S8x128 .f32) (e : Fin 16), stp 1#32 w (ix2 r (at16 g e)) ≤ z ↔ w (ix2 r (at16 g e)) ≤ z ∧ w (ix2 r (at16 g (e ^^^ 1))) ≤ z :=
    fun w e => stp_le w 1 e g r z
  have h2 : ∀ (w : FVec Ideal S8x128 .f32) (e : Fin 16), stp 2#32 w (ix2 r (at16 g e)) ≤ z ↔ w (ix2 r (at16 g e)) ≤ z ∧ w (ix2 r (at16 g (e ^^^ 2))) ≤ z :=
    fun w e => stp_le w 2 e g r z
  have h4 : ∀ (w : FVec Ideal S8x128 .f32) (e : Fin 16), stp 4#32 w (ix2 r (at16 g e)) ≤ z ↔ w (ix2 r (at16 g e)) ≤ z ∧ w (ix2 r (at16 g (e ^^^ 4))) ≤ z :=
    fun w e => stp_le w 4 e g r z
  have h8 : ∀ (w : FVec Ideal S8x128 .f32) (e : Fin 16), stp 8#32 w (ix2 r (at16 g e)) ≤ z ↔ w (ix2 r (at16 g e)) ≤ z ∧ w (ix2 r (at16 g (e ^^^ 8))) ≤ z :=
    fun w e => stp_le w 8 e g r z
  unfold gmx
  rw [h1, h2, h2, h4, h4, h4, h4, h8, h8, h8, h8, h8, h8, h8, h8]
  constructor
  · rintro ⟨⟨⟨⟨a0, a8⟩, a4, a12⟩, ⟨a2, a10⟩, a6, a14⟩, ⟨⟨a1, a9⟩, a5, a13⟩, ⟨a3, a11⟩, a7, a15⟩ e
    match e with
    | ⟨0, _⟩ => exact a0
    | ⟨1, _⟩ => exact a1
    | ⟨2, _⟩ => exact a2
    | ⟨3, _⟩ => exact a3
    | ⟨4, _⟩ => exact a4
    | ⟨5, _⟩ => exact a5
    | ⟨6, _⟩ => exact a6
    | ⟨7, _⟩ => exact a7
    | ⟨8, _⟩ => exact a8
    | ⟨9, _⟩ => exact a9
    | ⟨10, _⟩ => exact a10
    | ⟨11, _⟩ => exact a11
    | ⟨12, _⟩ => exact a12
    | ⟨13, _⟩ => exact a13
    | ⟨14, _⟩ => exact a14
    | ⟨15, _⟩ => exact a15
    | ⟨n + 16, h⟩ => exact absurd h (by omega)
  · intro h
    exact ⟨⟨⟨⟨h _, h _⟩, h _, h _⟩, ⟨h _, h _⟩, h _, h _⟩, ⟨⟨h _, h _⟩, h _, h _⟩, ⟨h _, h _⟩, h _, h _⟩

/-- The scale of a maximum, as a number. -/
def scale (s m : EReal) : EReal := min (Ideal.div m (s * Ideal.ofBits .f32 0x40C00000#32)) (Ideal.ofBits .f32 0x43E00000#32)

theorem sc_apply (s : Ideal .f32) (m : FVec Ideal S8x128 .f32) (j : S8x128.Idx) : sc s m j = scale s (m j) := rfl

theorem cat16 (a b : FVec Ideal S8x128 .f32) (i : Fin 16) (l : Fin 128) (r : Fin 8) :
    (i.val = r.val → concatenate S16x128 0 [⟨S8x128, a⟩, ⟨S8x128, b⟩] concatenates_S8x128_S8x128_S16x128_d0 (ix2 i l) = a (ix2 r l))
      ∧ (i.val = 8 + r.val → concatenate S16x128 0 [⟨S8x128, a⟩, ⟨S8x128, b⟩] concatenates_S8x128_S8x128_S16x128_d0 (ix2 i l) = b (ix2 r l)) := by
  constructor
  · intro h
    refine concatenate_pair_apply_left (t := S16x128) (s₁ := S8x128) (s₂ := S8x128) 0 _ _ _ (ix2 i l) rfl (ix2 r l) ?_
    intro k
    match k with
    | ⟨0, _⟩ => exact h.symm
    | ⟨1, _⟩ => rfl
  · intro h
    refine concatenate_pair_apply_right (t := S16x128) (s₁ := S8x128) (s₂ := S8x128) 0 _ _ _ (ix2 i l) rfl rfl (ix2 r l) ?_ ?_
    · intro k hk
      match k with
      | ⟨0, _⟩ => exact absurd rfl hk
      | ⟨1, _⟩ => rfl
    · show r.val + 8 = i.val
      omega

theorem cat256 (a b : FVec Ideal S16x128 .f32) (i : Fin 16) (l' : Fin 256) (l : Fin 128) :
    (l'.val = l.val → concatenate S16x256 1 [⟨S16x128, a⟩, ⟨S16x128, b⟩] concatenates_S16x128_S16x128_S16x256_d1 (ix2 i l') = a (ix2 i l))
      ∧ (l'.val = 128 + l.val → concatenate S16x256 1 [⟨S16x128, a⟩, ⟨S16x128, b⟩] concatenates_S16x128_S16x128_S16x256_d1 (ix2 i l') = b (ix2 i l)) := by
  constructor
  · intro h
    refine concatenate_pair_apply_left (t := S16x256) (s₁ := S16x128) (s₂ := S16x128) 1 _ _ _ (ix2 i l') rfl (ix2 i l) ?_
    intro k
    match k with
    | ⟨0, _⟩ => rfl
    | ⟨1, _⟩ => exact h.symm
  · intro h
    refine concatenate_pair_apply_right (t := S16x256) (s₁ := S16x128) (s₂ := S16x128) 1 _ _ _ (ix2 i l') rfl rfl (ix2 i l) ?_ ?_
    · intro k hk
      match k with
      | ⟨0, _⟩ => rfl
      | ⟨1, _⟩ => exact absurd rfl hk
    · show l.val + 128 = l'.val
      omega

theorem cat32 (a b : FVec Ideal S16x256 .f32) (i' : Fin 32) (i : Fin 16) (l : Fin 256) :
    (i'.val = i.val → concatenate S32x256 0 [⟨S16x256, a⟩, ⟨S16x256, b⟩] concatenates_S16x256_S16x256_S32x256_d0 (ix2 i' l) = a (ix2 i l))
      ∧ (i'.val = 16 + i.val → concatenate S32x256 0 [⟨S16x256, a⟩, ⟨S16x256, b⟩] concatenates_S16x256_S16x256_S32x256_d0 (ix2 i' l) = b (ix2 i l)) := by
  constructor
  · intro h
    refine concatenate_pair_apply_left (t := S32x256) (s₁ := S16x256) (s₂ := S16x256) 0 _ _ _ (ix2 i' l) rfl (ix2 i l) ?_
    intro k
    match k with
    | ⟨0, _⟩ => exact h.symm
    | ⟨1, _⟩ => rfl
  · intro h
    refine concatenate_pair_apply_right (t := S32x256) (s₁ := S16x256) (s₂ := S16x256) 0 _ _ _ (ix2 i' l) rfl rfl (ix2 i l) ?_ ?_
    · intro k hk
      match k with
      | ⟨0, _⟩ => exact absurd rfl hk
      | ⟨1, _⟩ => rfl
    · show i.val + 16 = i'.val
      omega

/-- A 16-row half at row `8w + r` and lane `128t + l` is the scales of its tile there. -/
theorem half_apply (s : Ideal .f32) (Y : ℕ → ℕ → FVec Ideal S8x128 .bf16) (p c : ℕ) (w t : ℕ) (hw : w < 2) (ht : t < 2) (r : Fin 8) (l : Fin 128)
    (i : Fin 16) (l' : Fin 256) (hi : i.val = 8 * w + r.val) (hl : l'.val = 128 * t + l.val) :
    half s (Y p c) (Y (p + 1) c) (Y p (c + 1)) (Y (p + 1) (c + 1)) (ix2 i l') = un s (Y (p + w) (c + t)) (ix2 r l) := by
  unfold half
  obtain rfl | rfl : t = 0 ∨ t = 1 := by omega
  · rw [(cat256 _ _ i l' l).1 (by omega)]
    obtain rfl | rfl : w = 0 ∨ w = 1 := by omega
    · exact (cat16 _ _ i l r).1 (by omega)
    · exact (cat16 _ _ i l r).2 (by omega)
  · rw [(cat256 _ _ i l' l).2 (by omega)]
    obtain rfl | rfl : w = 0 ∨ w = 1 := by omega
    · exact (cat16 _ _ i l r).1 (by omega)
    · exact (cat16 _ _ i l r).2 (by omega)

theorem chunk_apply (s : Ideal .f32) (X : ℕ → ℕ → FVec Ideal S8x128 .bf16) (h c : ℕ) (u t : ℕ) (hu : u < 4) (ht : t < 2) (r : Fin 8) (l : Fin 128)
    (i : Fin 32) (l' : Fin 256) (hi : i.val = 8 * u + r.val) (hl : l'.val = 128 * t + l.val) :
    chunk s X h c (ix2 i l') = un s (X (4 * h + u) (2 * c + t)) (ix2 r l) := by
  unfold chunk
  have hr := r.isLt
  rcases Nat.lt_or_ge u 2 with h2 | h2
  · rw [(cat32 _ _ i ⟨8 * u + r.val, by omega⟩ l').1 hi]
    exact half_apply s X (4 * h) (2 * c) u t h2 ht r l _ l' rfl hl
  · rw [(cat32 _ _ i ⟨8 * (u - 2) + r.val, by omega⟩ l').2 (by dsimp only; omega)]
    refine (half_apply s X (4 * h + 2) (2 * c) (u - 2) t (by omega) ht r l _ l' rfl hl).trans ?_
    rw [show 4 * h + 2 + (u - 2) = 4 * h + u by omega]

theorem gather_at : ∀ l : Fin 128, (fixw (IntOp.muli (IntOp.andi (BitVec.ofNat 32 l.val) 7#32) 16#32)).toNat % 128
    = (at16 ⟨l.val % 8, Nat.mod_lt _ (by decide)⟩ 0).val := by decide +kernel

theorem got_apply (s : Ideal .f32) (X : ℕ → ℕ → FVec Ideal S8x128 .bf16) (h c u t : ℕ) (hu : u < 4) (r : Fin 8) (l : Fin 128) :
    got u t (chunk s X h c) (ix2 r l) = un s (X (4 * h + u) (2 * c + t % 2)) (ix2 r (at16 ⟨l.val % 8, Nat.mod_lt _ (by decide)⟩ 0)) := by
  unfold got
  rw [pm_apply]
  have e : muli (andi lane (broadcast S8x128 7#32)) (broadcast S8x128 16#32) (ix2 r l) = IntOp.muli (IntOp.andi (BitVec.ofNat 32 l.val) 7#32) 16#32 :=
    congrArg (fun w => IntOp.muli (IntOp.andi w 7#32) 16#32) (lane_apply r l)
  have e' : (⟨(fixw (muli (andi lane (broadcast S8x128 7#32)) (broadcast S8x128 16#32) (ix2 r l))).toNat % 128, Nat.mod_lt _ (by decide)⟩ : Fin 128)
      = at16 ⟨l.val % 8, Nat.mod_lt _ (by decide)⟩ 0 := Fin.ext (by dsimp only; rw [e]; exact gather_at l)
  rw [e']
  generalize at16 ⟨l.val % 8, Nat.mod_lt _ (by decide)⟩ 0 = p
  have hr := r.isLt
  have hp := p.isLt
  have h2 : t % 2 < 2 := Nat.mod_lt _ (by decide)
  rw [extractStridedSlice_apply ![8 * (u % 4), 128 * (t % 2)] (chunk s X h c) (slices_ut u t) (ix2 r p)
    (ix2 ⟨8 * u + r.val, by omega⟩ ⟨128 * (t % 2) + p.val, by omega⟩) (fun a => match a with
      | ⟨0, _⟩ => by show 8 * u + r.val = 8 * (u % 4) + r.val; rw [Nat.mod_eq_of_lt hu]
      | ⟨1, _⟩ => rfl)]
  exact chunk_apply s X h c u (t % 2) hu h2 r p _ _ rfl rfl

theorem sel_at : ∀ (n : Fin 16) (l : Fin 128), IntOp.cmpi .eq (IntOp.shrsi .vector (BitVec.ofNat 32 l.val) 3#32) (BitVec.ofNat 32 n.val)
    = if l.val / 8 = n.val then 1#1 else 0#1 := by decide +kernel

theorem col_apply (s : Ideal .f32) (X : ℕ → ℕ → FVec Ideal S8x128 .bf16) (h T u : ℕ) (hu : u < 4) (r : Fin 8) (l : Fin 128) :
    ∀ n : ℕ, n < 16 → l.val / 8 ≤ n →
      col s X h T u n (ix2 r l) = un s (X (4 * h + u) (16 * T + l.val / 8)) (ix2 r (at16 ⟨l.val % 8, Nat.mod_lt _ (by decide)⟩ 0))
  | 0, _, hl => by
    refine (got_apply s X h (8 * T) u 0 hu r l).trans ?_
    rw [show 2 * (8 * T) + 0 % 2 = 16 * T + l.val / 8 by omega]
  | n + 1, hn, hl => by
    have hc : cmpi .eq (shrsi lane (broadcast S8x128 3#32)) (broadcast S8x128 (BitVec.ofNat 32 (n + 1))) (ix2 r l)
        = if l.val / 8 = n + 1 then 1#1 else 0#1 :=
      (congrArg (fun w => IntOp.cmpi .eq (IntOp.shrsi .vector w 3#32) (BitVec.ofNat 32 (n + 1))) (lane_apply r l)).trans (sel_at ⟨n + 1, hn⟩ l)
    show Scalar.select (cmpi .eq (shrsi lane (broadcast S8x128 3#32)) (broadcast S8x128 (BitVec.ofNat 32 (n + 1))) (ix2 r l))
      (got u (n + 1) (chunk s X h (8 * T + (n + 1) / 2)) (ix2 r l)) (col s X h T u n (ix2 r l)) = _
    rw [hc]
    split
    · rename_i heq
      refine (show _ = got u (n + 1) (chunk s X h (8 * T + (n + 1) / 2)) (ix2 r l) from rfl).trans ((got_apply s X h _ u (n + 1) hu r l).trans ?_)
      rw [show 2 * (8 * T + (n + 1) / 2) + (n + 1) % 2 = 16 * T + l.val / 8 by omega]
    · exact (show _ = col s X h T u n (ix2 r l) from rfl).trans (col_apply s X h T u hu r l n (by omega) (by omega))

theorem piece_apply (s : Ideal .f32) (X : ℕ → ℕ → FVec Ideal S8x128 .bf16) (h T u : ℕ) (hu : u < 4) (r : Fin 8) (l : Fin 128) (i : Fin 32) (hi : i.val = 8 * u + r.val) :
    piece s X h T (ix2 i l) = un s (X (4 * h + u) (16 * T + l.val / 8)) (ix2 r (at16 ⟨l.val % 8, Nat.mod_lt _ (by decide)⟩ 0)) := by
  have hl := l.isLt
  refine Eq.trans ?_ (col_apply s X h T u hu r l 15 (by decide) (by omega))
  show concatenate S32x128 0 [⟨S8x128, col s X h T 0 15⟩, ⟨S8x128, col s X h T 1 15⟩, ⟨S8x128, col s X h T 2 15⟩, ⟨S8x128, col s X h T 3 15⟩]
    concatenates_S8x128_S8x128_S8x128_S8x128_S32x128_d0 (ix2 i l) = _
  have side : ∀ b : Fin 2, b ≠ 0 → ((ix2 r l : S8x128.Idx) b).val = ((ix2 i l : S32x128.Idx) b).val := fun b hb => by
    match b with
    | ⟨0, _⟩ => exact absurd rfl hb
    | ⟨1, _⟩ => rfl
  obtain rfl | rfl | rfl | rfl : u = 0 ∨ u = 1 ∨ u = 2 ∨ u = 3 := by omega
  · exact concatenate_apply_piece (t := S32x128) 0 _ _ (ix2 i l) 0 (by simp) S8x128 _ rfl rfl 0 rfl (ix2 r l) side (by show 0 + r.val = i.val; omega)
  · exact concatenate_apply_piece (t := S32x128) 0 _ _ (ix2 i l) 1 (by simp) S8x128 _ rfl rfl 8 rfl (ix2 r l) side (by show 8 + r.val = i.val; omega)
  · exact concatenate_apply_piece (t := S32x128) 0 _ _ (ix2 i l) 2 (by simp) S8x128 _ rfl rfl 16 rfl (ix2 r l) side (by show 16 + r.val = i.val; omega)
  · exact concatenate_apply_piece (t := S32x128) 0 _ _ (ix2 i l) 3 (by simp) S8x128 _ rfl rfl 24 rfl (ix2 r l) side (by show 24 + r.val = i.val; omega)

end Cert.XsbIdeal.Gen

end
-- ==== Proof.Xsb.Reference.lean ====
/-
  The block scales' reference: host operations only, each buffer's final contents computed from the launch contents. Its maximum
  over 16 neighbours is known by its upper bounds.
-/
module

public import proofs.«01_k».proof.Defs
public import proofs.«01_k».proof.Proof.Gen.XsbReferenceIdeal
public import proofs.«01_k».proof.Proof.Xsb.Value
public import Idealize.ShloMosaic.Lib.Claim
public import Idealize.ShloMosaic.Lib.Quiescent
public import Idealize.ShloMosaic.PureOps.Reduce
public import Idealize.ShloMosaic.Adequacy
public import Idealize.ShloMosaic.Init

@[expose] public section

set_option maxRecDepth 16384

noncomputable section

namespace Cert.Tie

open Idealize.ShloMosaic Idealize.ShloMosaic.TcCoe Idealize.SL.Sem
open Cert.XsbReferenceIdeal Cert.XsbReferenceIdeal.Gen

theorem xsb_reference_quiescent : Cert.quiescent_XsbReferenceIdeal := by
  intro m g _
  have h : θ_run (Cert.XsbReferenceIdeal.defs (F := Ideal)) (onTc (τ := Cert.XsbReferenceIdeal.τ) (Cert.XsbReferenceIdeal.main (F := Ideal))) ⟨m, fun _ => 0, g⟩
      (fun r => ∀ c : Dev Cert.XsbReferenceIdeal.nD,
        r.2.mem ((c.tc : Thread Cert.XsbReferenceIdeal.nD Cert.XsbReferenceIdeal.τ).loc Cert.XsbReferenceIdeal.main_arg0) = m ((c.tc : Thread Cert.XsbReferenceIdeal.nD Cert.XsbReferenceIdeal.τ).loc Cert.XsbReferenceIdeal.main_arg0)
          ∧ r.2.mem ((c.tc : Thread Cert.XsbReferenceIdeal.nD Cert.XsbReferenceIdeal.τ).loc Cert.XsbReferenceIdeal.main_arg1) = m ((c.tc : Thread Cert.XsbReferenceIdeal.nD Cert.XsbReferenceIdeal.τ).loc Cert.XsbReferenceIdeal.main_arg1)) := by
    hlo_run
  exact θ_run_mono h fun r hr => ⟨hr, sem_eq_zero_of_no_sems rfl _⟩

/-- The reference's largest magnitudes. -/
def xred (A : Vec Ideal S1920x4096 .bf16) : Vec Ideal S1920x256 .f32 :=
  Host.reduce (FloatOps.maximumf (F := Ideal) (φ := .f32))
    (shapeCast S1920x256x16 (Host.absf (extf (F := Ideal) .f32 A Facts₀.bitsLt_bf16_f32) : Vec Ideal S1920x4096 .f32) Facts₀.shapeCasts_S1920x4096_S1920x256x16)
    (constant (F := Ideal) S_ .f32 0xFF800000#32) Facts₀.reducesTo_S1920x256x16_S1920x256_d2 Facts₀.h_S_

/-- The reference's scales. -/
def xsb_refv (S : Vec Ideal S2 .f32) (A : Vec Ideal S1920x4096 .bf16) : Vec Ideal S1920x256 .fp8e4m3 :=
  Host.convertf .fp8e4m3 (minimumf (Host.divf (xred A) (broadcastInDim S1920x256 ![] Facts₀.bcast_S_S1920x256
      (mulf (shapeCast S_ (extractStridedSlice S1 ![0] S Facts₀.slices_S2_S1_0) Facts₀.shapeCasts_S1_S_) (constant (F := Ideal) S_ .f32 0x40C00000#32))))
    (broadcastInDim S1920x256 ![] Facts₀.bcast_S_S1920x256 (constant (F := Ideal) S_ .f32 0x43E00000#32)))

theorem xsb_reference_run (m : (ℓ : Loc nD τ sig) → Buf (Elt Ideal) ℓ) (g : Dev nD → PrngReg) :
    θ_run (defs (F := Ideal)) (onTc (τ := τ) (main (F := Ideal))) ⟨m, fun _ => 0, g⟩
      (fun r => ∀ c : Dev nD,
        r.2.mem ((c.tc : Thread nD τ).loc main_v11) = xsb_refv (m ((c.tc : Thread nD τ).loc main_arg0)) (m ((c.tc : Thread nD τ).loc main_arg1))
          ∧ r.2.mem ((c.tc : Thread nD τ).loc main_arg0) = m ((c.tc : Thread nD τ).loc main_arg0)
          ∧ r.2.mem ((c.tc : Thread nD τ).loc main_arg1) = m ((c.tc : Thread nD τ).loc main_arg1)) := by
  hlo_run
  rfl

/-- The index of the tensor scale of the activations. -/
def first2 : S2.Idx
  | ⟨0, _⟩ => (0 : Fin 2)

theorem xsb_refv_apply (S : Vec Ideal S2 .f32) (A : Vec Ideal S1920x4096 .bf16) (j : S1920x256.Idx) :
    xsb_refv S A j = Cert.XsbIdeal.Gen.scale (S first2) (xred A j) := by
  have h : ∀ k : S_.Idx, shapeCast S_ (extractStridedSlice S1 ![0] S Facts₀.slices_S2_S1_0) Facts₀.shapeCasts_S1_S_ k = S first2 := fun k => by
    unfold shapeCast extractStridedSlice
    refine congrArg S (funext fun a => ?_)
    match a with
    | ⟨0, _⟩ =>
      apply Fin.ext
      have := (Shape.reshapeEquiv Facts₀.shapeCasts_S1_S_ k (0 : Fin 1)).isLt
      change _ < 1 at this
      show 0 + (Shape.reshapeEquiv Facts₀.shapeCasts_S1_S_ k (0 : Fin 1)).val = 0
      omega
  exact congrArg (fun s => Cert.XsbIdeal.Gen.scale s (xred A j)) (h _)

/-- `|x|`. -/
def amag (x : EReal) : EReal := max x (-x)

theorem xbot : Ideal.ofBits .f32 0xFF800000#32 = ⊥ := by simp [Ideal.ofBits, Ideal.ieee]

/-- Element `e` of block `b`. -/
def at4096 (b : Fin 256) (e : Fin 16) : Fin 4096 := ⟨16 * b.val + e.val, by omega⟩

theorem xred_le (A : Vec Ideal S1920x4096 .bf16) (r : Fin 1920) (b : Fin 256) (z : EReal) :
    xred A (ix2 r b) ≤ z ↔ ∀ e : Fin 16, amag (A (ix2 r (at4096 b e))) ≤ z := by
  have hc : ∀ (i : S1920x256x16.Idx) (e : Fin 16), (i 0).val = r.val → (i 1).val = b.val → (i 2).val = e.val →
      shapeCast S1920x256x16 (Host.absf (extf (F := Ideal) .f32 A Facts₀.bitsLt_bf16_f32) : Vec Ideal S1920x4096 .f32) Facts₀.shapeCasts_S1920x4096_S1920x256x16 i
        = amag (A (ix2 r (at4096 b e))) := fun i e h0 h1 h2 => by
    refine shapeCast_apply (s := S1920x4096) (t := S1920x256x16) _ _ i (ix2 r (at4096 b e)) ?_
    rw [Shape.rowMajor_val_two, Shape.rowMajor_val_three]
    show r.val * 4096 + (16 * b.val + e.val) = ((i 0).val * 256 + (i 1).val) * 16 + (i 2).val
    rw [h0, h1, h2]
    omega
  unfold xred
  rw [Host.reduce_eq_fold]
  constructor
  · intro H e
    have hi := ((Finset.fold_max_le z).1 H).2 (fun | ⟨0, _⟩ => r | ⟨1, _⟩ => b | ⟨2, _⟩ => e) (Finset.mem_filter.2 ⟨Finset.mem_univ _, by
      funext a
      match a with
      | ⟨0, _⟩ => rfl
      | ⟨1, _⟩ => rfl⟩)
    rwa [hc _ e rfl rfl rfl] at hi
  · intro H
    refine (Finset.fold_max_le z).2 ⟨(le_of_eq xbot).trans bot_le, fun i hi => ?_⟩
    have hd := (Finset.mem_filter.1 hi).2
    have h0 : (i 0).val = r.val := congrArg Fin.val (congrFun hd 0)
    have h1 : (i 1).val = b.val := congrArg Fin.val (congrFun hd 1)
    rw [hc i (i 2) h0 h1 rfl]
    exact H _

end Cert.Tie

end
-- ==== Proof.Xsb.Block.lean ====
/-
  The block scales, part 4: a block's scales, element by element, are the reference's at the block's rows.
-/
module

public import proofs.«01_k».proof.Proof.Xsb.Value
public import proofs.«01_k».proof.Proof.Xsb.Reference

@[expose] public section

set_option maxRecDepth 16384

noncomputable section

namespace Cert.XsbIdeal.Gen

open Idealize.ShloMosaic Idealize.ShloMosaic.TcCoe
open Cert.Tie

/-- The tile of rows `8q` and lanes `128l` of a block. -/
def tl (x : Vec Ideal S128x4096 .bf16) (q l : ℕ) : Vec Ideal S8x128 .bf16 := fun j =>
  x (ix2 (⟨8 * (q % 16) + (j 0).val, by have h : (j 0).val < 8 := (j 0).isLt; omega⟩ : Fin 128)
    (⟨128 * (l % 32) + (j 1).val, by have h : (j 1).val < 128 := (j 1).isLt; omega⟩ : Fin 4096))

/-- The scales of a block. -/
def blkv (s : EReal) (x : Vec Ideal S128x4096 .bf16) : Vec Ideal S128x256 .fp8e4m3 := fun y =>
  un (F := Ideal) s (tl x ((y 0).val / 8) ((y 1).val / 8)) (ix2 (⟨(y 0).val % 8, Nat.mod_lt _ (by decide)⟩ : Fin 8) (at16 ⟨(y 1).val % 8, Nat.mod_lt _ (by decide)⟩ 0))

/-- What is stored at the 32 rows `h` and the 128 lanes `T` is the block's scales there. -/
theorem piece_blkv (s : EReal) (x : Vec Ideal S128x4096 .bf16) (h T : ℕ) (j : S32x128.Idx) (y : S128x256.Idx)
    (h0 : (y 0).val = 32 * h + (j 0).val) (h1 : (y 1).val = 128 * T + (j 1).val) : piece (F := Ideal) s (tl x) h T j = blkv s x y := by
  have b0 : (j 0).val < 32 := (j 0).isLt
  have b1 : (j 1).val < 128 := (j 1).isLt
  have e := piece_apply s (tl x) h T ((j 0).val / 8) (by omega) ⟨(j 0).val % 8, Nat.mod_lt _ (by decide)⟩ (j 1 : Fin 128) (j 0 : Fin 32) (by
    show (j 0).val = 8 * ((j 0).val / 8) + (j 0).val % 8
    omega)
  refine (congrArg (piece (F := Ideal) s (tl x) h T) (ix2_eta j)).trans (e.trans ?_)
  unfold blkv
  have e0 : (y 0).val / 8 = 4 * h + (j 0).val / 8 := by omega
  have e1 : (y 1).val / 8 = 16 * T + (j 1).val / 8 := by omega
  have f0 : (⟨(y 0).val % 8, Nat.mod_lt _ (by decide)⟩ : Fin 8) = ⟨(j 0).val % 8, Nat.mod_lt _ (by decide)⟩ := Fin.ext (by show (y 0).val % 8 = (j 0).val % 8; omega)
  have f1 : (⟨(y 1).val % 8, Nat.mod_lt _ (by decide)⟩ : Fin 8) = ⟨(j 1).val % 8, Nat.mod_lt _ (by decide)⟩ := Fin.ext (by show (y 1).val % 8 = (j 1).val % 8; omega)
  rw [e0, e1, f0, f1]

/-- The scales of block `t` are the reference's at its rows. -/
theorem blkv_eq (S : Vec Ideal S2 .f32) (A : Vec Ideal S1920x4096 .bf16) (x : Vec Ideal S128x4096 .bf16) (t : Fin 15)
    (hx : ∀ (a : Fin 128) (b : Fin 4096), x (ix2 a b) = A (ix2 (⟨128 * t.val + a.val, by omega⟩ : Fin 1920) b)) (y : S128x256.Idx) (i : S1920x256.Idx)
    (h0 : (i 0).val = 128 * t.val + (y 0).val) (h1 : (i 1).val = (y 1).val) : blkv (S first2) x y = xsb_refv S A i := by
  have b0 : (y 0).val < 128 := (y 0).isLt
  have b1 : (y 1).val < 256 := (y 1).isLt
  rw [xsb_refv_apply]
  unfold blkv
  refine (sc_apply _ _ _).trans (congrArg (scale (S first2)) (eq_of_forall_ge_iff fun z => ?_))
  rw [show xred A i = xred A (ix2 (i 0 : Fin 1920) (i 1 : Fin 256)) from congrArg (xred A) (ix2_eta i)]
  refine (gmx_le _ _ _ z).trans (Iff.trans (forall_congr' fun e => ?_) (xred_le A _ _ z).symm)
  have he : (absf (extf .f32 (tl x ((y 0).val / 8) ((y 1).val / 8)) bitsLt_bf16_f32) : FVec Ideal S8x128 .f32)
      (ix2 (⟨(y 0).val % 8, Nat.mod_lt _ (by decide)⟩ : Fin 8) (at16 ⟨(y 1).val % 8, Nat.mod_lt _ (by decide)⟩ e))
        = amag (A (ix2 (i 0 : Fin 1920) (at4096 (i 1 : Fin 256) e))) := by
    refine congrArg amag ((hx _ _).trans (congrArg A ?_))
    funext a
    apply Fin.ext
    match a with
    | ⟨0, _⟩ =>
      show 128 * t.val + (8 * ((y 0).val / 8 % 16) + (y 0).val % 8) = (i 0).val
      omega
    | ⟨1, _⟩ =>
      show 128 * ((y 1).val / 8 % 32) + (16 * ((y 1).val % 8) + e.val) = 16 * (i 1).val + e.val
      omega
  rw [he]

end Cert.XsbIdeal.Gen

end
-- ==== Proof.Xsb.Body.lean ====
/-
  The block scales, part 3: the eight stores of a grid point, read off the run, and the block they leave.
-/
module

public import proofs.«01_k».proof.Proof.Xsb.Value
public import proofs.«01_k».proof.Proof.Gen.XsbIdeal.Frame

@[expose] public section

set_option maxRecDepth 65536

noncomputable section

namespace Cert.XsbIdeal.Gen

open Idealize.ShloMosaic Idealize.ShloMosaic.TcCoe Idealize.ShloMosaic.Tactic
open Idealize.SL Idealize.SL.RA Idealize.SL.BI Idealize.SL.Sem
open scoped Idealize.SL.BI
open Idealize.ShloMosaic.Pipeline (Dat Cfg Window)

variable {F : FTy → Type} [FloatOps F]
variable (c : Dev nD) (i : grid0.Coords) (a1 : Memref sig .tc .smem S2 .f32) (h1 : a1.IsWhole) (a2 : Memref sig .tc .vmem S128x4096 .bf16) (h2 : a2.IsWhole)
  (a3 : Memref sig .tc .vmem S128x256 .fp8e4m3) (h3 : a3.IsWhole)

/-- The tensor scale of the activations, as the body reads it. -/
def s0 (x0 : Vec F S2 .f32) : F .f32 :=
  a1.view.readAt (Elt F) (Rect.unit (s := S2) ![0] S1.size inb_S2_S1_0).toLoadRect (h1.unread x0) (Shape.Idx.first (numel1_S1.symm ▸ Nat.one_pos))

/-- The body's stores, the last first. -/
theorem stores_eq (x0 : Vec F S2 .f32) (x1 : Vec F S128x4096 .bf16) :
    (kernelRun0_A c i a1 h1 a2 h2 a3 h3 x0 x1).1 =
      [⟨Rect.unit (s := S128x256) ![96, 128] S32x128.size inb_S128x256_S32x128_96_128, piece (s0 a1 h1 x0) (rd a2.view (h2.unread x1)) 3 1⟩,
        ⟨Rect.unit (s := S128x256) ![96, 0] S32x128.size inb_S128x256_S32x128_96_0, piece (s0 a1 h1 x0) (rd a2.view (h2.unread x1)) 3 0⟩,
        ⟨Rect.unit (s := S128x256) ![64, 128] S32x128.size inb_S128x256_S32x128_64_128, piece (s0 a1 h1 x0) (rd a2.view (h2.unread x1)) 2 1⟩,
        ⟨Rect.unit (s := S128x256) ![64, 0] S32x128.size inb_S128x256_S32x128_64_0, piece (s0 a1 h1 x0) (rd a2.view (h2.unread x1)) 2 0⟩,
        ⟨Rect.unit (s := S128x256) ![32, 128] S32x128.size inb_S128x256_S32x128_32_128, piece (s0 a1 h1 x0) (rd a2.view (h2.unread x1)) 1 1⟩,
        ⟨Rect.unit (s := S128x256) ![32, 0] S32x128.size inb_S128x256_S32x128_32_0, piece (s0 a1 h1 x0) (rd a2.view (h2.unread x1)) 1 0⟩,
        ⟨Rect.unit (s := S128x256) ![0, 128] S32x128.size inb_S128x256_S32x128_0_128, piece (s0 a1 h1 x0) (rd a2.view (h2.unread x1)) 0 1⟩,
        ⟨Rect.unit (s := S128x256) ![0, 0] S32x128.size inb_S128x256_S32x128_0_0, piece (s0 a1 h1 x0) (rd a2.view (h2.unread x1)) 0 0⟩] := by
  sl_kernel_rfl

end Cert.XsbIdeal.Gen

end
-- ==== Proof.Xsb.Result.lean ====
/-
  The block scales, part 6: the result array after the grid.
-/
module

public import proofs.«01_k».proof.Proof.Xsb.Block
public import proofs.«01_k».proof.Proof.Xsb.Body
public import Idealize.ShloMosaic.Lib.Claim

@[expose] public section

set_option maxRecDepth 16384

noncomputable section

namespace Cert.XsbIdeal.Gen

open Idealize.ShloMosaic Idealize.ShloMosaic.TcCoe Idealize.ShloMosaic.Tactic
open Idealize.SL Idealize.SL.RA Idealize.SL.BI Idealize.SL.Sem
open scoped Idealize.SL.BI
open Idealize.ShloMosaic.Pipeline (Dat Cfg Window)
open Cert.Tie

section body

variable (c : Dev nD) (i : grid0.Coords) (a1 : Memref sig .tc .smem S2 .f32) (h1 : a1.IsWhole) (a2 : Memref sig .tc .vmem S128x4096 .bf16) (h2 : a2.IsWhole)
  (a3 : Memref sig .tc .vmem S128x256 .fp8e4m3) (h3 : a3.IsWhole)

theorem s0_eq (x0 : Vec Ideal S2 .f32) : s0 a1 h1 x0 = x0 first2 := by
  unfold s0
  rw [View.readAt_eq_ld, h1.read_unread]
  refine congrArg x0 (funext fun a => ?_)
  match a with
  | ⟨0, _⟩ => rfl

theorem rd_eq (x1 : Vec Ideal S128x4096 .bf16) : rd a2.view (h2.unread x1) = tl x1 := by
  funext q l
  unfold rd tl
  rw [View.readAt_eq_ld, h2.read_unread]
  funext j
  refine congrArg x1 (funext fun a => Fin.ext ?_)
  match a with
  | ⟨0, _⟩ => show 8 * (q % 16) + 1 * (j 0).val = 8 * (q % 16) + (j 0).val; omega
  | ⟨1, _⟩ => show 128 * (l % 32) + 1 * (j 1).val = 128 * (l % 32) + (j 1).val; omega

/-- The block a grid point leaves. -/
theorem out_eq (x0 : Vec Ideal S2 .f32) (x1 : Vec Ideal S128x4096 .bf16) : out0_A_2 c i a1 h1 a2 h2 a3 h3 x0 x1 = blkv (x0 first2) x1 := by
  funext y
  unfold out0_A_2
  refine View.read_writes_apply_of_pieces VO0_2 _ (blkv (x0 first2) x1) _ ?_ y (cover0_A_2 c i a1 h1 a2 h2 a3 h3 x0 x1 y)
  rw [stores_eq, s0_eq, rd_eq]
  intro p hp j
  simp only [List.mem_cons, List.not_mem_nil, or_false] at hp
  rcases hp with rfl | rfl | rfl | rfl | rfl | rfl | rfl | rfl
  · exact piece_blkv _ x1 3 1 j _ (by show 96 + 1 * (j 0).val = _; omega) (by show 128 + 1 * (j 1).val = _; omega)
  · exact piece_blkv _ x1 3 0 j _ (by show 96 + 1 * (j 0).val = _; omega) (by show 0 + 1 * (j 1).val = _; omega)
  · exact piece_blkv _ x1 2 1 j _ (by show 64 + 1 * (j 0).val = _; omega) (by show 128 + 1 * (j 1).val = _; omega)
  · exact piece_blkv _ x1 2 0 j _ (by show 64 + 1 * (j 0).val = _; omega) (by show 0 + 1 * (j 1).val = _; omega)
  · exact piece_blkv _ x1 1 1 j _ (by show 32 + 1 * (j 0).val = _; omega) (by show 128 + 1 * (j 1).val = _; omega)
  · exact piece_blkv _ x1 1 0 j _ (by show 32 + 1 * (j 0).val = _; omega) (by show 0 + 1 * (j 1).val = _; omega)
  · exact piece_blkv _ x1 0 1 j _ (by show 0 + 1 * (j 0).val = _; omega) (by show 128 + 1 * (j 1).val = _; omega)
  · exact piece_blkv _ x1 0 0 j _ (by show 0 + 1 * (j 0).val = _; omega) (by show 0 + 1 * (j 1).val = _; omega)

end body

variable (m : (ℓ : Loc nD τ sig) → Buf (Elt Ideal) ℓ) (ρ : Dev nD → PrngReg)

abbrev arr0 (c : Dev nD) : Vec Ideal S2 .f32 := m ((c : Thread nD τ).loc main_arg0)
abbrev arr1 (c : Dev nD) : Vec Ideal S1920x4096 .bf16 := m ((c : Thread nD τ).loc main_arg1)

theorem index0 : ∀ t : Fin cfg0.N, win0_0.index t 0 = 0 := by decide +kernel
theorem index1 : ∀ t : Fin cfg0.N, win0_1.index t 0 = t.val ∧ win0_1.index t 1 = 0 := by decide +kernel
theorem index2 : ∀ t : Fin cfg0.N, win0_2.index t 0 = t.val ∧ win0_2.index t 1 = 0 := by decide +kernel

theorem iblk0_eq (c : Dev nD) (t : Fin cfg0.N) : (iblk m c 0 t : Vec Ideal S2 .f32) = arr0 m c := by
  have hi := index0 t
  funext j
  unfold iblk
  rw [View.read_apply]
  show V m c main_arg0 _ = m (c.tc.loc main_arg0) _
  unfold V
  congr 1
  funext a
  apply Fin.ext
  match a with
  | ⟨0, _⟩ => show win0_0.index t 0 * 2 + 1 * (j 0).val = (j 0).val; rw [hi]; omega

theorem iblk1_eq (c : Dev nD) (t : Fin cfg0.N) (b : Fin 15) (hb : b.val = t.val) (p : Fin 128) (q : Fin 4096) :
    (iblk m c 1 t : Vec Ideal S128x4096 .bf16) (ix2 p q) = arr1 m c (ix2 (⟨128 * b.val + p.val, by omega⟩ : Fin 1920) q) := by
  have hi := index1 t
  unfold iblk
  rw [View.read_apply]
  show V m c main_arg1 _ = m (c.tc.loc main_arg1) _
  unfold V
  congr 1
  funext a
  apply Fin.ext
  match a with
  | ⟨0, _⟩ => show win0_1.index t 0 * 128 + 1 * p.val = 128 * b.val + p.val; rw [hi.1]; omega
  | ⟨1, _⟩ => show win0_1.index t 1 * 4096 + 1 * q.val = q.val; rw [hi.2]; omega

/-- The result array of core `c`. -/
abbrev result (c : Dev nD) : Buf (Elt Ideal) ((c : Thread nD τ).loc main_v0) := xsb_refv (arr0 m c) (arr1 m c)

/-- Every write-back writes its block of it. -/
theorem flushed_eq (c : Dev nD) (t : Fin cfg0.N) (hf : (cfg0.win 2).flush t = true) :
    (dats m 0 c).flushed 2 t = ((cfg0.win 2).blk t).view.read (Elt Ideal) (result m c) := by
  have hN : t.val < 15 := lt_of_lt_of_eq t.isLt (show cfg0.N = 15 from N_0)
  have hi := index2 t
  show (cfg0.win 2).cut (grid0.coords _) ((dats m 0 c).after 2 _) = _
  rw [after0_2]
  unfold outsAt0
  rw [out_eq, iblk0_eq]
  funext j
  rw [View.read_apply]
  show blkv (arr0 m c first2) (iblk m c 1 t) j = result m c (((cfg0.win 2).blk t).view.emb j)
  refine blkv_eq (arr0 m c) (arr1 m c) _ ⟨t.val, hN⟩ (iblk1_eq m c t ⟨t.val, hN⟩ rfl) j _ ?_ ?_
  · show win0_2.index t 0 * 128 + 1 * (j 0).val = 128 * t.val + (j 0).val
    rw [hi.1]; omega
  · show win0_2.index t 1 * 256 + 1 * (j 1).val = (j 1).val
    rw [hi.2]; omega

/-- So the array ends at the result. -/
theorem final_s (c : Dev nD) : (dats m 0 c).arrAt 2 cfg0.N = result m c :=
  (dats m 0 c).arrAt_eq_of_cover 2 (result m c) (flushed_eq m c) fun i => by
    have b0 : (i 0 : Nat) < 1920 := (i 0).isLt
    have b1 : (i 1 : Nat) < 256 := (i 1).isLt
    have hN' : (i 0 : Nat) / 128 < cfg0.N := by rw [show cfg0.N = 15 from N_0]; omega
    refine ⟨⟨(i 0 : Nat) / 128, hN'⟩, flush0_2 _, ?_⟩
    have hi := index2 ⟨(i 0 : Nat) / 128, hN'⟩
    show i ∈ ((View.whole main_v0).slice (win0_2.rect ⟨(i 0 : Nat) / 128, hN'⟩)).set
    rw [View.set_slice_whole, Rect.mem_set_unit]
    intro a
    match a with
    | ⟨0, _⟩ => show win0_2.index ⟨(i 0 : Nat) / 128, hN'⟩ 0 * 128 ≤ (i 0 : Nat) ∧ (i 0 : Nat) < win0_2.index ⟨(i 0 : Nat) / 128, hN'⟩ 0 * 128 + 128
                rw [hi.1]; dsimp only; omega
    | ⟨1, _⟩ => show win0_2.index ⟨(i 0 : Nat) / 128, hN'⟩ 1 * 256 ≤ (i 1 : Nat) ∧ (i 1 : Nat) < win0_2.index ⟨(i 0 : Nat) / 128, hN'⟩ 1 * 256 + 256
                rw [hi.2]; omega

/-- The run, read: the result array at the result, the arguments unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨((h c).1 2).trans (final_s m c), ((h c).1 0).trans ((dats m 0 c).arrAt_in 0 rfl _),
    ((h c).1 1).trans ((dats m 0 c).arrAt_in 1 rfl _)⟩)
    (run_main m ρ)

end Cert.XsbIdeal.Gen

end
-- ==== Proof.Xsb.Claims.lean ====
/-
  The value claim about the block scales: at the ideal reading they are the reference's.
-/
module

public import proofs.«01_k».proof.Proof.Xsb.Result

@[expose] public section

set_option maxRecDepth 16384

noncomputable section

namespace Cert.Tie

open Idealize.ShloMosaic Idealize.ShloMosaic.TcCoe Idealize.SL.Sem

theorem xsb_algebraic : Cert.algebraic_XsbIdeal_XsbReferenceIdeal := by
  intro m g m' g' _ hagree
  refine ⟨fun c => Cert.XsbIdeal.Gen.result m c, Cert.XsbIdeal.Gen.run m g, ?_⟩
  refine θ_run_mono (xsb_reference_run m' g') fun r hr c => ⟨(hr c).1.trans ?_, (hr c).2⟩
  obtain ⟨h0, h1⟩ := hagree c
  rw [h0, h1]

end Cert.Tie

end
-- ==== Proof.lean ====
/-
  The claims, put together: the frames of the three programs and of their references, and the three value claims
  (`Proof/Main/`: the pipelined product; `Proof/Amax/`: the tensor scales; `Proof/Xsb/`: the block scales of the activations).
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Amax
public import proofs.«01_k».proof.Proof.Gen.Amax.Skeleton
public import proofs.«01_k».proof.Proof.Gen.Amax.Launch
public import proofs.«01_k».proof.Proof.Gen.Amax.Points
public import proofs.«01_k».proof.Proof.Gen.Amax.Frame
public import proofs.«01_k».proof.Proof.Gen.AmaxIdeal
public import proofs.«01_k».proof.Proof.Gen.AmaxIdeal.Skeleton
public import proofs.«01_k».proof.Proof.Gen.AmaxIdeal.Launch
public import proofs.«01_k».proof.Proof.Gen.AmaxIdeal.Points
public import proofs.«01_k».proof.Proof.Gen.AmaxIdeal.Frame
public import proofs.«01_k».proof.Proof.Gen.AmaxReferenceIdeal
public import proofs.«01_k».proof.Proof.Gen.Xsb
public import proofs.«01_k».proof.Proof.Gen.Xsb.Skeleton
public import proofs.«01_k».proof.Proof.Gen.Xsb.Launch
public import proofs.«01_k».proof.Proof.Gen.Xsb.Points
public import proofs.«01_k».proof.Proof.Gen.Xsb.Frame
public import proofs.«01_k».proof.Proof.Gen.XsbIdeal
public import proofs.«01_k».proof.Proof.Gen.XsbIdeal.Skeleton
public import proofs.«01_k».proof.Proof.Gen.XsbIdeal.Launch
public import proofs.«01_k».proof.Proof.Gen.XsbIdeal.Points
public import proofs.«01_k».proof.Proof.Gen.XsbIdeal.Frame
public import proofs.«01_k».proof.Proof.Gen.XsbReferenceIdeal
public import proofs.«01_k».proof.Proof.Forget.Frame
public import proofs.«01_k».proof.Proof.Main.Claims
public import proofs.«01_k».proof.Proof.Amax.Claims
public import proofs.«01_k».proof.Proof.Xsb.Claims
public import Idealize.ShloMosaic.Lib.Bf16Pair
public import Idealize.ShloMosaic.Lib.Bf16PairInverse
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Amax.Gen.facts, Cert.AmaxIdeal.Gen.facts, Cert.AmaxReferenceIdeal.Gen.facts,
   Cert.Xsb.Gen.facts, Cert.XsbIdeal.Gen.facts, Cert.XsbReferenceIdeal.Gen.facts,
   fun m g _ => Cert.Kernel.Gen.frame m g,
   Cert.Tie.kernel_quiescent,
   Cert.Tie.reference_quiescent,
   fun m g _ => Cert.Amax.Gen.frame m g,
   fun m g _ => Cert.AmaxIdeal.Gen.frame m g,
   Cert.Tie.amax_reference_quiescent,
   fun m g _ => Cert.Xsb.Gen.frame m g,
   fun m g _ => Cert.XsbIdeal.Gen.frame m g,
   Cert.Tie.xsb_reference_quiescent,
   ⟨IdealRules.bf16_pair.bufferStatement _ _, IdealRules.bf16_pair.statement _ _, IdealRules.bf16_pair.statement _ _,
    IdealRules.bf16_pair.statement _ _, IdealRules.bf16_pair.statement _ _⟩,
   Cert.Tie.kernel_algebraic,
   trivial,
   Cert.Tie.amax_algebraic,
   trivial,
   Cert.Tie.xsb_algebraic⟩

end Cert.Proof

end
